-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_policy_row [hPre_one_policy_row : Cert.Pre_one_policy_row.Facts] (m : (ℓ : Loc Cert.KernelIdeal.nD Cert.KernelIdeal.τ Cert.KernelIdeal.sig) → Buf (Elt Ideal) ℓ) : Prop :=
  ∀ c : Dev Cert.KernelIdeal.nD,
    (Cert.Pre_one_policy_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_one_policy_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_one_policy_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_policy_row [hPre_one_policy_row : Cert.Pre_one_policy_row.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_policy_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_one_policy_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_one_policy_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_one_policy_row [hKernelIdeal : Cert.KernelIdeal.Facts] [hPre_one_policy_row : Cert.Pre_one_policy_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_policy_row m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_one_policy_row [hReferenceIdeal : Cert.ReferenceIdeal.Facts] [hPre_one_policy_row : Cert.Pre_one_policy_row.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_policy_row m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_one_policy_row [hKernelIdeal : Cert.KernelIdeal.Facts] [hReferenceIdeal : Cert.ReferenceIdeal.Facts] [hPre_one_policy_row : Cert.Pre_one_policy_row.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_policy_row m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_one_policy_row : Cert.Pre_one_policy_row.Facts),
    quiescent_Kernel (hKernel := hKernel)
    ∧ quiescent_KernelIdeal (hKernelIdeal := hKernelIdeal)
    ∧ quiescent_KernelIdeal_pre_one_policy_row (hKernelIdeal := hKernelIdeal) (hPre_one_policy_row := hPre_one_policy_row)
    ∧ quiescent_ReferenceIdeal (hReferenceIdeal := hReferenceIdeal)
    ∧ quiescent_ReferenceIdeal_pre_one_policy_row (hReferenceIdeal := hReferenceIdeal) (hPre_one_policy_row := hPre_one_policy_row)
    ∧ preserves_Kernel_KernelIdeal
    ∧ algebraic_KernelIdeal_ReferenceIdeal_pre_one_policy_row (hKernelIdeal := hKernelIdeal) (hReferenceIdeal := hReferenceIdeal) (hPre_one_policy_row := hPre_one_policy_row)
-- ==== Pre_one_policy_row.lean ====
abbrev S16384 : Shape := ⟨1, ![16384]⟩
abbrev S100x16 : Shape := ⟨2, ![100, 16]⟩
abbrev S_ : Shape := ⟨0, ![]⟩
abbrev S1x16 : Shape := ⟨2, ![1, 16]⟩

class Facts : Prop where
  bcast_S_S16384 : S_.BroadcastsInDim S16384 (![] : Fin 0 → Fin S16384.rank)
  slices_S100x16_S1x16_0_0 : S100x16.Slices ![0, 0] S1x16
  bcast_S1x16_S100x16_0_1 : S1x16.BroadcastsInDim S100x16 (![0, 1] : Fin 2 → Fin S100x16.rank)
  bcast_S_S100x16 : S_.BroadcastsInDim S100x16 (![] : Fin 0 → Fin S100x16.rank)

variable [Facts]

def fn {F : FTy → Type} [FloatOps F] (main_arg0 : IVec S16384 32) (main_arg1 : FVec F S100x16 .f32) : IVec S16384 1 × IVec S100x16 1 × IVec S100x16 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100#32
  let main_v2 : IVec S16384 32 := broadcastInDim S16384 ![] bcast_S_S16384 main_c_0
  let main_v3 : IVec S16384 1 := cmpi .slt main_arg0 main_v2
  let main_v4 : IVec S16384 1 := andi main_v1 main_v3
  let main_v5 : FVec F S1x16 .f32 := (extractStridedSlice S1x16 ![0, 0] · slices_S100x16_S1x16_0_0) main_arg1
  let main_v6 : FVec F S100x16 .f32 := broadcastInDim S100x16 ![0, 1] bcast_S1x16_S100x16_0_1 main_v5
  let main_v7 : IVec S100x16 1 := cmpf .oeq main_arg1 main_v6
  let main_cst : FVec F S_ .f32 := constant S_ .f32 0x00000000#32
  let main_v8 : FVec F S100x16 .f32 := broadcastInDim S100x16 ![] bcast_S_S100x16 main_cst
  let main_v9 : IVec S100x16 1 := cmpf .oge main_arg1 main_v8
  let main_cst_1 : FVec F S_ .f32 := constant S_ .f32 0x7F800000#32
  let main_v10 : FVec F S100x16 .f32 := broadcastInDim S100x16 ![] bcast_S_S100x16 main_cst_1
  let main_v11 : IVec S100x16 1 := cmpf .olt main_arg1 main_v10
  let main_v12 : IVec S100x16 1 := andi main_v9 main_v11
  (main_v4, main_v7, main_v12)
-- ==== Kernel.lean ====
abbrev S16384 : Shape := ⟨1, ![16384]⟩
abbrev S100x16 : Shape := ⟨2, ![100, 16]⟩
abbrev S16x100 : Shape := ⟨2, ![16, 100]⟩
abbrev S16x1 : Shape := ⟨2, ![16, 1]⟩
abbrev S1 : Shape := ⟨1, ![1]⟩
abbrev S1x1 : Shape := ⟨2, ![1, 1]⟩
abbrev S16x2048 : Shape := ⟨2, ![16, 2048]⟩
abbrev S2048 : Shape := ⟨1, ![2048]⟩
abbrev S1x2048 : Shape := ⟨2, ![1, 2048]⟩

abbrev nBuf : Space → Nat
  | .hbm => 4
  | .vmem => 2
  | .smem => 0
  | _ => 0

abbrev bufTy : (tb : Table) → Fin (tcTables nBuf tb) → BufTy
  | .hbm, ⟨0, _⟩ => ⟨S16384, .i32⟩
  | .hbm, ⟨1, _⟩ => ⟨S100x16, .f32⟩
  | .hbm, ⟨2, _⟩ => ⟨S16x100, .f32⟩
  | .hbm, ⟨3, _⟩ => ⟨S16384, .i32⟩
  | .local _ .vmem, ⟨0, _⟩ => ⟨S16x100, .f32⟩
  | .local _ .vmem, ⟨1, _⟩ => ⟨S16384, .i32⟩
  | _, _ => ⟨S16384, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S16x100 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ReferenceIdeal.lean ====
abbrev S16384 : Shape := ⟨1, ![16384]⟩
abbrev S100x16 : Shape := ⟨2, ![100, 16]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x16 : Shape := ⟨2, ![16384, 16]⟩
abbrev S2 : Shape := ⟨1, ![2]⟩

abbrev nBuf : Space → Nat
  | .hbm => 324
  | .vmem => 0
  | .smem => 0
  | _ => 0

abbrev hbmTy0_0 (i : Nat) : BufTy := match i % 128 with
  | 0 => ⟨S16384, .i32⟩
  | 1 => ⟨S100x16, .f32⟩
  | 2 => ⟨S_, .i32⟩
  | 3 => ⟨S16384, .i32⟩
  | 4 => ⟨S16384, .i1⟩
  | 5 => ⟨S_, .i32⟩
  | 6 => ⟨S16384, .i32⟩
  | 7 => ⟨S16384, .i32⟩
  | 8 => ⟨S16384, .i32⟩
  | 9 => ⟨S16384x1, .i32⟩
  | 10 => ⟨S1, .i32⟩
  | 11 => ⟨S_, .i32⟩
  | 12 => ⟨S16384x1, .i32⟩
  | 13 => ⟨S16384x1, .i1⟩
  | 14 => ⟨S1x1, .i32⟩
  | 15 => ⟨S16384x1, .i32⟩
  | 16 => ⟨S16384x1, .i1⟩
  | 17 => ⟨S16384x1, .i1⟩
  | 18 => ⟨S_, .i1⟩
  | 19 => ⟨S16384, .i1⟩
  | 20 => ⟨S16384x16, .f32⟩
  | 21 => ⟨S16384x16, .i1⟩
  | 22 => ⟨S_, .f32⟩
  | 23 => ⟨S16384x16, .f32⟩
  | 24 => ⟨S16384x16, .f32⟩
  | 25 => ⟨S_, .f32⟩
  | 26 => ⟨S16384, .f32⟩
  | 27 => ⟨S16384x1, .f32⟩
  | 28 => ⟨S16384x16, .f32⟩
  | 29 => ⟨S16384x16, .f32⟩
  | 30 => ⟨S_, .i32⟩
  | 31 => ⟨S_, .i32⟩
  | 32 => ⟨S_, .i32⟩
  | 33 => ⟨S_, .i32⟩
  | 34 => ⟨S1, .i32⟩
  | 35 => ⟨S_, .i32⟩
  | 36 => ⟨S_, .i32⟩
  | 37 => ⟨S_, .i32⟩
  | 38 => ⟨S1, .i32⟩
  | 39 => ⟨S2, .i32⟩
  | 40 => ⟨S_, .f32⟩
  | 41 => ⟨S_, .f32⟩
  | 42 => ⟨S_, .f32⟩
  | 43 => ⟨S_, .f32⟩
  | 44 => ⟨S1x1, .f32⟩
  | 45 => ⟨S1x1, .f32⟩
  | 46 => ⟨S1, .i32⟩
  | 47 => ⟨S_, .i32⟩
  | 48 => ⟨S1, .i32⟩
  | 49 => ⟨S_, .i32⟩
  | 50 => ⟨S16384x16, .i64⟩
  | 51 => ⟨S16384x16, .i64⟩
  | 52 => ⟨S_, .i64⟩
  | 53 => ⟨S16384x16, .i64⟩
  | 54 => ⟨S16384x16, .i64⟩
  | 55 => ⟨S_, .i64⟩
  | 56 => ⟨S16384x16, .i64⟩
  | 57 => ⟨S16384x16, .i64⟩
  | 58 => ⟨S16384x16, .i64⟩
  | 59 => ⟨S_, .i64⟩
  | 60 => ⟨S16384x16, .i64⟩
  | 61 => ⟨S16384x16, .i64⟩
  | 62 => ⟨S16384x16, .i32⟩
  | 63 => ⟨S16384x16, .i32⟩
  | 64 => ⟨S_, .i32⟩
  | 65 => ⟨S_, .i32⟩
  | 66 => ⟨S_, .i32⟩
  | 67 => ⟨S16384x16, .i32⟩
  | 68 => ⟨S16384x16, .i32⟩
  | 69 => ⟨S16384x16, .i32⟩
  | 70 => ⟨S16384x16, .i32⟩
  | 71 => ⟨S16384x16, .i32⟩
  | 72 => ⟨S_, .i32⟩
  | 73 => ⟨S16384x16, .i32⟩
  | 74 => ⟨S16384x16, .i32⟩
  | 75 => ⟨S_, .i32⟩
  | 76 => ⟨S16384x16, .i32⟩
  | 77 => ⟨S16384x16, .i32⟩
  | 78 => ⟨S16384x16, .i32⟩
  | 79 => ⟨S16384x16, .i32⟩
  | 80 => ⟨S16384x16, .i32⟩
  | 81 => ⟨S_, .i32⟩
  | 82 => ⟨S16384x16, .i32⟩
  | 83 => ⟨S16384x16, .i32⟩
  | 84 => ⟨S_, .i32⟩
  | 85 => ⟨S16384x16, .i32⟩
  | 86 => ⟨S16384x16, .i32⟩
  | 87 => ⟨S16384x16, .i32⟩
  | 88 => ⟨S16384x16, .i32⟩
  | 89 => ⟨S16384x16, .i32⟩
  | 90 => ⟨S_, .i32⟩
  | 91 => ⟨S16384x16, .i32⟩
  | 92 => ⟨S16384x16, .i32⟩
  | 93 => ⟨S_, .i32⟩
  | 94 => ⟨S16384x16, .i32⟩
  | 95 => ⟨S16384x16, .i32⟩
  | 96 => ⟨S16384x16, .i32⟩
  | 97 => ⟨S16384x16, .i32⟩
  | 98 => ⟨S16384x16, .i32⟩
  | 99 => ⟨S_, .i32⟩
  | 100 => ⟨S16384x16, .i32⟩
  | 101 => ⟨S16384x16, .i32⟩
  | 102 => ⟨S_, .i32⟩
  | 103 => ⟨S16384x16, .i32⟩
  | 104 => ⟨S16384x16, .i32⟩
  | 105 => ⟨S16384x16, .i32⟩
  | 106 => ⟨S16384x16, .i32⟩
  | 107 => ⟨S16384x16, .i32⟩
  | 108 => ⟨S16384x16, .i32⟩
  | 109 => ⟨S16384x16, .i32⟩
  | 110 => ⟨S16384x16, .i32⟩
  | 111 => ⟨S_, .i32⟩
  | 112 => ⟨S16384x16, .i32⟩
  | 113 => ⟨S16384x16, .i32⟩
  | 114 => ⟨S16384x16, .i32⟩
  | 115 => ⟨S_, .i32⟩
  | 116 => ⟨S16384x16, .i32⟩
  | 117 => ⟨S16384x16, .i32⟩
  | 118 => ⟨S_, .i32⟩
  | 119 => ⟨S16384x16, .i32⟩
  | 120 => ⟨S16384x16, .i32⟩
  | 121 => ⟨S16384x16, .i32⟩
  | 122 => ⟨S16384x16, .i32⟩
  | 123 => ⟨S16384x16, .i32⟩
  | 124 => ⟨S_, .i32⟩
  | 125 => ⟨S16384x16, .i32⟩
  | 126 => ⟨S16384x16, .i32⟩
  | 127 => ⟨S_, .i32⟩
  | _ => ⟨S16384, .i32⟩

abbrev hbmTy0_1 (i : Nat) : BufTy := match i % 128 with
  | 0 => ⟨S16384x16, .i32⟩
  | 1 => ⟨S16384x16, .i32⟩
  | 2 => ⟨S16384x16, .i32⟩
  | 3 => ⟨S16384x16, .i32⟩
  | 4 => ⟨S16384x16, .i32⟩
  | 5 => ⟨S_, .i32⟩
  | 6 => ⟨S16384x16, .i32⟩
  | 7 => ⟨S16384x16, .i32⟩
  | 8 => ⟨S_, .i32⟩
  | 9 => ⟨S16384x16, .i32⟩
  | 10 => ⟨S16384x16, .i32⟩
  | 11 => ⟨S16384x16, .i32⟩
  | 12 => ⟨S16384x16, .i32⟩
  | 13 => ⟨S16384x16, .i32⟩
  | 14 => ⟨S_, .i32⟩
  | 15 => ⟨S16384x16, .i32⟩
  | 16 => ⟨S16384x16, .i32⟩
  | 17 => ⟨S_, .i32⟩
  | 18 => ⟨S16384x16, .i32⟩
  | 19 => ⟨S16384x16, .i32⟩
  | 20 => ⟨S16384x16, .i32⟩
  | 21 => ⟨S16384x16, .i32⟩
  | 22 => ⟨S16384x16, .i32⟩
  | 23 => ⟨S16384x16, .i32⟩
  | 24 => ⟨S16384x16, .i32⟩
  | 25 => ⟨S16384x16, .i32⟩
  | 26 => ⟨S_, .i32⟩
  | 27 => ⟨S16384x16, .i32⟩
  | 28 => ⟨S16384x16, .i32⟩
  | 29 => ⟨S16384x16, .i32⟩
  | 30 => ⟨S_, .i32⟩
  | 31 => ⟨S16384x16, .i32⟩
  | 32 => ⟨S16384x16, .i32⟩
  | 33 => ⟨S_, .i32⟩
  | 34 => ⟨S16384x16, .i32⟩
  | 35 => ⟨S16384x16, .i32⟩
  | 36 => ⟨S16384x16, .i32⟩
  | 37 => ⟨S16384x16, .i32⟩
  | 38 => ⟨S16384x16, .i32⟩
  | 39 => ⟨S_, .i32⟩
  | 40 => ⟨S16384x16, .i32⟩
  | 41 => ⟨S16384x16, .i32⟩
  | 42 => ⟨S_, .i32⟩
  | 43 => ⟨S16384x16, .i32⟩
  | 44 => ⟨S16384x16, .i32⟩
  | 45 => ⟨S16384x16, .i32⟩
  | 46 => ⟨S16384x16, .i32⟩
  | 47 => ⟨S16384x16, .i32⟩
  | 48 => ⟨S_, .i32⟩
  | 49 => ⟨S16384x16, .i32⟩
  | 50 => ⟨S16384x16, .i32⟩
  | 51 => ⟨S_, .i32⟩
  | 52 => ⟨S16384x16, .i32⟩
  | 53 => ⟨S16384x16, .i32⟩
  | 54 => ⟨S16384x16, .i32⟩
  | 55 => ⟨S16384x16, .i32⟩
  | 56 => ⟨S16384x16, .i32⟩
  | 57 => ⟨S_, .i32⟩
  | 58 => ⟨S16384x16, .i32⟩
  | 59 => ⟨S16384x16, .i32⟩
  | 60 => ⟨S_, .i32⟩
  | 61 => ⟨S16384x16, .i32⟩
  | 62 => ⟨S16384x16, .i32⟩
  | 63 => ⟨S16384x16, .i32⟩
  | 64 => ⟨S16384x16, .i32⟩
  | 65 => ⟨S16384x16, .i32⟩
  | 66 => ⟨S16384x16, .i32⟩
  | 67 => ⟨S16384x16, .i32⟩
  | 68 => ⟨S16384x16, .i32⟩
  | 69 => ⟨S_, .i32⟩
  | 70 => ⟨S16384x16, .i32⟩
  | 71 => ⟨S16384x16, .i32⟩
  | 72 => ⟨S16384x16, .i32⟩
  | 73 => ⟨S_, .i32⟩
  | 74 => ⟨S16384x16, .i32⟩
  | 75 => ⟨S16384x16, .i32⟩
  | 76 => ⟨S_, .i32⟩
  | 77 => ⟨S16384x16, .i32⟩
  | 78 => ⟨S16384x16, .i32⟩
  | 79 => ⟨S16384x16, .i32⟩
  | 80 => ⟨S16384x16, .i32⟩
  | 81 => ⟨S16384x16, .i32⟩
  | 82 => ⟨S_, .i32⟩
  | 83 => ⟨S16384x16, .i32⟩
  | 84 => ⟨S16384x16, .i32⟩
  | 85 => ⟨S_, .i32⟩
  | 86 => ⟨S16384x16, .i32⟩
  | 87 => ⟨S16384x16, .i32⟩
  | 88 => ⟨S16384x16, .i32⟩
  | 89 => ⟨S16384x16, .i32⟩
  | 90 => ⟨S16384x16, .i32⟩
  | 91 => ⟨S_, .i32⟩
  | 92 => ⟨S16384x16, .i32⟩
  | 93 => ⟨S16384x16, .i32⟩
  | 94 => ⟨S_, .i32⟩
  | 95 => ⟨S16384x16, .i32⟩
  | 96 => ⟨S16384x16, .i32⟩
  | 97 => ⟨S16384x16, .i32⟩
  | 98 => ⟨S16384x16, .i32⟩
  | 99 => ⟨S16384x16, .i32⟩
  | 100 => ⟨S_, .i32⟩
  | 101 => ⟨S16384x16, .i32⟩
  | 102 => ⟨S16384x16, .i32⟩
  | 103 => ⟨S_, .i32⟩
  | 104 => ⟨S16384x16, .i32⟩
  | 105 => ⟨S16384x16, .i32⟩
  | 106 => ⟨S16384x16, .i32⟩
  | 107 => ⟨S16384x16, .i32⟩
  | 108 => ⟨S16384x16, .i32⟩
  | 109 => ⟨S16384x16, .i32⟩
  | 110 => ⟨S16384x16, .i32⟩
  | 111 => ⟨S16384x16, .i32⟩
  | 112 => ⟨S_, .i32⟩
  | 113 => ⟨S16384x16, .i32⟩
  | 114 => ⟨S16384x16, .i32⟩
  | 115 => ⟨S16384x16, .i32⟩
  | 116 => ⟨S_, .i32⟩
  | 117 => ⟨S16384x16, .i32⟩
  | 118 => ⟨S16384x16, .i32⟩
  | 119 => ⟨S_, .i32⟩
  | 120 => ⟨S16384x16, .i32⟩
  | 121 => ⟨S16384x16, .i32⟩
  | 122 => ⟨S16384x16, .i32⟩
  | 123 => ⟨S16384x16, .i32⟩
  | 124 => ⟨S16384x16, .i32⟩
  | 125 => ⟨S_, .i32⟩
  | 126 => ⟨S16384x16, .i32⟩
  | 127 => ⟨S16384x16, .i32⟩
  | _ => ⟨S16384, .i32⟩

abbrev hbmTy0_2 (i : Nat) : BufTy := match i % 128 with
  | 0 => ⟨S_, .i32⟩
  | 1 => ⟨S16384x16, .i32⟩
  | 2 => ⟨S16384x16, .i32⟩
  | 3 => ⟨S16384x16, .i32⟩
  | 4 => ⟨S16384x16, .i32⟩
  | 5 => ⟨S16384x16, .i32⟩
  | 6 => ⟨S_, .i32⟩
  | 7 => ⟨S16384x16, .i32⟩
  | 8 => ⟨S16384x16, .i32⟩
  | 9 => ⟨S_, .i32⟩
  | 10 => ⟨S16384x16, .i32⟩
  | 11 => ⟨S16384x16, .i32⟩
  | 12 => ⟨S16384x16, .i32⟩
  | 13 => ⟨S16384x16, .i32⟩
  | 14 => ⟨S16384x16, .i32⟩
  | 15 => ⟨S_, .i32⟩
  | 16 => ⟨S16384x16, .i32⟩
  | 17 => ⟨S16384x16, .i32⟩
  | 18 => ⟨S_, .i32⟩
  | 19 => ⟨S16384x16, .i32⟩
  | 20 => ⟨S16384x16, .i32⟩
  | 21 => ⟨S16384x16, .i32⟩
  | 22 => ⟨S16384x16, .i32⟩
  | 23 => ⟨S16384x16, .i32⟩
  | 24 => ⟨S16384x16, .i32⟩
  | 25 => ⟨S16384x16, .i32⟩
  | 26 => ⟨S16384x16, .i32⟩
  | 27 => ⟨S_, .i32⟩
  | 28 => ⟨S16384x16, .i32⟩
  | 29 => ⟨S16384x16, .i32⟩
  | 30 => ⟨S16384x16, .i32⟩
  | 31 => ⟨S_, .i32⟩
  | 32 => ⟨S16384x16, .i32⟩
  | 33 => ⟨S16384x16, .i32⟩
  | 34 => ⟨S_, .i32⟩
  | 35 => ⟨S16384x16, .i32⟩
  | 36 => ⟨S16384x16, .i32⟩
  | 37 => ⟨S16384x16, .f32⟩
  | 38 => ⟨S_, .f32⟩
  | 39 => ⟨S16384x16, .f32⟩
  | 40 => ⟨S16384x16, .f32⟩
  | 41 => ⟨S1x1, .f32⟩
  | 42 => ⟨S16384x16, .f32⟩
  | 43 => ⟨S16384x16, .f32⟩
  | 44 => ⟨S16384x16, .f32⟩
  | 45 => ⟨S16384x16, .f32⟩
  | 46 => ⟨S16384x16, .f32⟩
  | 47 => ⟨S16384x16, .f32⟩
  | 48 => ⟨S_, .f32⟩
  | 49 => ⟨S16384x16, .f32⟩
  | 50 => ⟨S16384x16, .f32⟩
  | 51 => ⟨S_, .f32⟩
  | 52 => ⟨S16384x16, .f32⟩
  | 53 => ⟨S16384x16, .f32⟩
  | 54 => ⟨S_, .f32⟩
  | 55 => ⟨S16384x16, .f32⟩
  | 56 => ⟨S16384x16, .f32⟩
  | 57 => ⟨S16384x16, .f32⟩
  | 58 => ⟨S16384x16, .f32⟩
  | 59 => ⟨S16384x16, .f32⟩
  | 60 => ⟨S16384x16, .f32⟩
  | 61 => ⟨S16384x16, .f32⟩
  | 62 => ⟨S16384x16, .f32⟩
  | 63 => ⟨S16384x16, .i32⟩
  | 64 => ⟨S_, .f32⟩
  | 65 => ⟨S_, .i32⟩
  | 66 => ⟨S16384, .f32⟩
  | 67 => ⟨S16384, .i32⟩
  | _ => ⟨S16384, .i32⟩

abbrev hbmTy (i : Nat) : BufTy := match i / 128 with
  | 0 => hbmTy0_0 i
  | 1 => hbmTy0_1 i
  | 2 => hbmTy0_2 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_c : Ref sig .tc := ⟨.hbm, 30, rfl⟩
abbrev main_c_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_c_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_2 : Ref sig .tc := ⟨.hbm, 40, rfl⟩
abbrev main_cst_3 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_c : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_c_1 : Ref sig .tc := ⟨.hbm, 59, rfl⟩
abbrev main_call1_v15 : Ref sig .tc := ⟨.hbm, 60, rfl⟩
abbrev main_call1_v16 : Ref sig .tc := ⟨.hbm, 61, rfl⟩
abbrev main_call1_v17 : Ref sig .tc := ⟨.hbm, 62, rfl⟩
abbrev main_call1_v18 : Ref sig .tc := ⟨.hbm, 63, rfl⟩
abbrev main_call1_call0_v0 : Ref sig .tc := ⟨.hbm, 64, rfl⟩
abbrev main_call1_call0_c : Ref sig .tc := ⟨.hbm, 65, rfl⟩
abbrev main_call1_call0_v1 : Ref sig .tc := ⟨.hbm, 66, rfl⟩
abbrev main_call1_call0_v2 : Ref sig .tc := ⟨.hbm, 67, rfl⟩
abbrev main_call1_call0_v3 : Ref sig .tc := ⟨.hbm, 68, rfl⟩
abbrev main_call1_call0_v4 : Ref sig .tc := ⟨.hbm, 69, rfl⟩
abbrev main_call1_call0_v5 : Ref sig .tc := ⟨.hbm, 70, rfl⟩
abbrev main_call1_call0_v6 : Ref sig .tc := ⟨.hbm, 71, rfl⟩
abbrev main_call1_call0_c_0 : Ref sig .tc := ⟨.hbm, 72, rfl⟩
abbrev main_call1_call0_v7 : Ref sig .tc := ⟨.hbm, 73, rfl⟩
abbrev main_call1_call0_v8 : Ref sig .tc := ⟨.hbm, 74, rfl⟩
abbrev main_call1_call0_c_1 : Ref sig .tc := ⟨.hbm, 75, rfl⟩
abbrev main_call1_call0_v9 : Ref sig .tc := ⟨.hbm, 76, rfl⟩
abbrev main_call1_call0_v10 : Ref sig .tc := ⟨.hbm, 77, rfl⟩
abbrev main_call1_call0_v11 : Ref sig .tc := ⟨.hbm, 78, rfl⟩
abbrev main_call1_call0_v12 : Ref sig .tc := ⟨.hbm, 79, rfl⟩
abbrev main_call1_call0_v13 : Ref sig .tc := ⟨.hbm, 80, rfl⟩
abbrev main_call1_call0_c_2 : Ref sig .tc := ⟨.hbm, 81, rfl⟩
abbrev main_call1_call0_v14 : Ref sig .tc := ⟨.hbm, 82, rfl⟩
abbrev main_call1_call0_v15 : Ref sig .tc := ⟨.hbm, 83, rfl⟩
abbrev main_call1_call0_c_3 : Ref sig .tc := ⟨.hbm, 84, rfl⟩
abbrev main_call1_call0_v16 : Ref sig .tc := ⟨.hbm, 85, rfl⟩
abbrev main_call1_call0_v17 : Ref sig .tc := ⟨.hbm, 86, rfl⟩
abbrev main_call1_call0_v18 : Ref sig .tc := ⟨.hbm, 87, rfl⟩
abbrev main_call1_call0_v19 : Ref sig .tc := ⟨.hbm, 88, rfl⟩
abbrev main_call1_call0_v20 : Ref sig .tc := ⟨.hbm, 89, rfl⟩
abbrev main_call1_call0_c_4 : Ref sig .tc := ⟨.hbm, 90, rfl⟩
abbrev main_call1_call0_v21 : Ref sig .tc := ⟨.hbm, 91, rfl⟩
abbrev main_call1_call0_v22 : Ref sig .tc := ⟨.hbm, 92, rfl⟩
abbrev main_call1_call0_c_5 : Ref sig .tc := ⟨.hbm, 93, rfl⟩
abbrev main_call1_call0_v23 : Ref sig .tc := ⟨.hbm, 94, rfl⟩
abbrev main_call1_call0_v24 : Ref sig .tc := ⟨.hbm, 95, rfl⟩
abbrev main_call1_call0_v25 : Ref sig .tc := ⟨.hbm, 96, rfl⟩
abbrev main_call1_call0_v26 : Ref sig .tc := ⟨.hbm, 97, rfl⟩
abbrev main_call1_call0_v27 : Ref sig .tc := ⟨.hbm, 98, rfl⟩
abbrev main_call1_call0_c_6 : Ref sig .tc := ⟨.hbm, 99, rfl⟩
abbrev main_call1_call0_v28 : Ref sig .tc := ⟨.hbm, 100, rfl⟩
abbrev main_call1_call0_v29 : Ref sig .tc := ⟨.hbm, 101, rfl⟩
abbrev main_call1_call0_c_7 : Ref sig .tc := ⟨.hbm, 102, rfl⟩
abbrev main_call1_call0_v30 : Ref sig .tc := ⟨.hbm, 103, rfl⟩
abbrev main_call1_call0_v31 : Ref sig .tc := ⟨.hbm, 104, rfl⟩
abbrev main_call1_call0_v32 : Ref sig .tc := ⟨.hbm, 105, rfl⟩
abbrev main_call1_call0_v33 : Ref sig .tc := ⟨.hbm, 106, rfl⟩
abbrev main_call1_call0_v34 : Ref sig .tc := ⟨.hbm, 107, rfl⟩
abbrev main_call1_call0_v35 : Ref sig .tc := ⟨.hbm, 108, rfl⟩
abbrev main_call1_call0_v36 : Ref sig .tc := ⟨.hbm, 109, rfl⟩
abbrev main_call1_call0_v37 : Ref sig .tc := ⟨.hbm, 110, rfl⟩
abbrev main_call1_call0_c_8 : Ref sig .tc := ⟨.hbm, 111, rfl⟩
abbrev main_call1_call0_v38 : Ref sig .tc := ⟨.hbm, 112, rfl⟩
abbrev main_call1_call0_v39 : Ref sig .tc := ⟨.hbm, 113, rfl⟩
abbrev main_call1_call0_v40 : Ref sig .tc := ⟨.hbm, 114, rfl⟩
abbrev main_call1_call0_c_9 : Ref sig .tc := ⟨.hbm, 115, rfl⟩
abbrev main_call1_call0_v41 : Ref sig .tc := ⟨.hbm, 116, rfl⟩
abbrev main_call1_call0_v42 : Ref sig .tc := ⟨.hbm, 117, rfl⟩
abbrev main_call1_call0_c_10 : Ref sig .tc := ⟨.hbm, 118, rfl⟩
abbrev main_call1_call0_v43 : Ref sig .tc := ⟨.hbm, 119, rfl⟩
abbrev main_call1_call0_v44 : Ref sig .tc := ⟨.hbm, 120, rfl⟩
abbrev main_call1_call0_v45 : Ref sig .tc := ⟨.hbm, 121, rfl⟩
abbrev main_call1_call0_v46 : Ref sig .tc := ⟨.hbm, 122, rfl⟩
abbrev main_call1_call0_v47 : Ref sig .tc := ⟨.hbm, 123, rfl⟩
abbrev main_call1_call0_c_11 : Ref sig .tc := ⟨.hbm, 124, rfl⟩
abbrev main_call1_call0_v48 : Ref sig .tc := ⟨.hbm, 125, rfl⟩
abbrev main_call1_call0_v49 : Ref sig .tc := ⟨.hbm, 126, rfl⟩
abbrev main_call1_call0_c_12 : Ref sig .tc := ⟨.hbm, 127, rfl⟩
abbrev main_call1_call0_v50 : Ref sig .tc := ⟨.hbm, 128, rfl⟩
abbrev main_call1_call0_v51 : Ref sig .tc := ⟨.hbm, 129, rfl⟩
abbrev main_call1_call0_v52 : Ref sig .tc := ⟨.hbm, 130, rfl⟩
abbrev main_call1_call0_v53 : Ref sig .tc := ⟨.hbm, 131, rfl⟩
abbrev main_call1_call0_v54 : Ref sig .tc := ⟨.hbm, 132, rfl⟩
abbrev main_call1_call0_c_13 : Ref sig .tc := ⟨.hbm, 133, rfl⟩
abbrev main_call1_call0_v55 : Ref sig .tc := ⟨.hbm, 134, rfl⟩
abbrev main_call1_call0_v56 : Ref sig .tc := ⟨.hbm, 135, rfl⟩
abbrev main_call1_call0_c_14 : Ref sig .tc := ⟨.hbm, 136, rfl⟩
abbrev main_call1_call0_v57 : Ref sig .tc := ⟨.hbm, 137, rfl⟩
abbrev main_call1_call0_v58 : Ref sig .tc := ⟨.hbm, 138, rfl⟩
abbrev main_call1_call0_v59 : Ref sig .tc := ⟨.hbm, 139, rfl⟩
abbrev main_call1_call0_v60 : Ref sig .tc := ⟨.hbm, 140, rfl⟩
abbrev main_call1_call0_v61 : Ref sig .tc := ⟨.hbm, 141, rfl⟩
abbrev main_call1_call0_c_15 : Ref sig .tc := ⟨.hbm, 142, rfl⟩
abbrev main_call1_call0_v62 : Ref sig .tc := ⟨.hbm, 143, rfl⟩
abbrev main_call1_call0_v63 : Ref sig .tc := ⟨.hbm, 144, rfl⟩
abbrev main_call1_call0_c_16 : Ref sig .tc := ⟨.hbm, 145, rfl⟩
abbrev main_call1_call0_v64 : Ref sig .tc := ⟨.hbm, 146, rfl⟩
abbrev main_call1_call0_v65 : Ref sig .tc := ⟨.hbm, 147, rfl⟩
abbrev main_call1_call0_v66 : Ref sig .tc := ⟨.hbm, 148, rfl⟩
abbrev main_call1_call0_v67 : Ref sig .tc := ⟨.hbm, 149, rfl⟩
abbrev main_call1_call0_v68 : Ref sig .tc := ⟨.hbm, 150, rfl⟩
abbrev main_call1_call0_v69 : Ref sig .tc := ⟨.hbm, 151, rfl⟩
abbrev main_call1_call0_v70 : Ref sig .tc := ⟨.hbm, 152, rfl⟩
abbrev main_call1_call0_v71 : Ref sig .tc := ⟨.hbm, 153, rfl⟩
abbrev main_call1_call0_c_17 : Ref sig .tc := ⟨.hbm, 154, rfl⟩
abbrev main_call1_call0_v72 : Ref sig .tc := ⟨.hbm, 155, rfl⟩
abbrev main_call1_call0_v73 : Ref sig .tc := ⟨.hbm, 156, rfl⟩
abbrev main_call1_call0_v74 : Ref sig .tc := ⟨.hbm, 157, rfl⟩
abbrev main_call1_call0_c_18 : Ref sig .tc := ⟨.hbm, 158, rfl⟩
abbrev main_call1_call0_v75 : Ref sig .tc := ⟨.hbm, 159, rfl⟩
abbrev main_call1_call0_v76 : Ref sig .tc := ⟨.hbm, 160, rfl⟩
abbrev main_call1_call0_c_19 : Ref sig .tc := ⟨.hbm, 161, rfl⟩
abbrev main_call1_call0_v77 : Ref sig .tc := ⟨.hbm, 162, rfl⟩
abbrev main_call1_call0_v78 : Ref sig .tc := ⟨.hbm, 163, rfl⟩
abbrev main_call1_call0_v79 : Ref sig .tc := ⟨.hbm, 164, rfl⟩
abbrev main_call1_call0_v80 : Ref sig .tc := ⟨.hbm, 165, rfl⟩
abbrev main_call1_call0_v81 : Ref sig .tc := ⟨.hbm, 166, rfl⟩
abbrev main_call1_call0_c_20 : Ref sig .tc := ⟨.hbm, 167, rfl⟩
abbrev main_call1_call0_v82 : Ref sig .tc := ⟨.hbm, 168, rfl⟩
abbrev main_call1_call0_v83 : Ref sig .tc := ⟨.hbm, 169, rfl⟩
abbrev main_call1_call0_c_21 : Ref sig .tc := ⟨.hbm, 170, rfl⟩
abbrev main_call1_call0_v84 : Ref sig .tc := ⟨.hbm, 171, rfl⟩
abbrev main_call1_call0_v85 : Ref sig .tc := ⟨.hbm, 172, rfl⟩
abbrev main_call1_call0_v86 : Ref sig .tc := ⟨.hbm, 173, rfl⟩
abbrev main_call1_call0_v87 : Ref sig .tc := ⟨.hbm, 174, rfl⟩
abbrev main_call1_call0_v88 : Ref sig .tc := ⟨.hbm, 175, rfl⟩
abbrev main_call1_call0_c_22 : Ref sig .tc := ⟨.hbm, 176, rfl⟩
abbrev main_call1_call0_v89 : Ref sig .tc := ⟨.hbm, 177, rfl⟩
abbrev main_call1_call0_v90 : Ref sig .tc := ⟨.hbm, 178, rfl⟩
abbrev main_call1_call0_c_23 : Ref sig .tc := ⟨.hbm, 179, rfl⟩
abbrev main_call1_call0_v91 : Ref sig .tc := ⟨.hbm, 180, rfl⟩
abbrev main_call1_call0_v92 : Ref sig .tc := ⟨.hbm, 181, rfl⟩
abbrev main_call1_call0_v93 : Ref sig .tc := ⟨.hbm, 182, rfl⟩
abbrev main_call1_call0_v94 : Ref sig .tc := ⟨.hbm, 183, rfl⟩
abbrev main_call1_call0_v95 : Ref sig .tc := ⟨.hbm, 184, rfl⟩
abbrev main_call1_call0_c_24 : Ref sig .tc := ⟨.hbm, 185, rfl⟩
abbrev main_call1_call0_v96 : Ref sig .tc := ⟨.hbm, 186, rfl⟩
abbrev main_call1_call0_v97 : Ref sig .tc := ⟨.hbm, 187, rfl⟩
abbrev main_call1_call0_c_25 : Ref sig .tc := ⟨.hbm, 188, rfl⟩
abbrev main_call1_call0_v98 : Ref sig .tc := ⟨.hbm, 189, rfl⟩
abbrev main_call1_call0_v99 : Ref sig .tc := ⟨.hbm, 190, rfl⟩
abbrev main_call1_call0_v100 : Ref sig .tc := ⟨.hbm, 191, rfl⟩
abbrev main_call1_call0_v101 : Ref sig .tc := ⟨.hbm, 192, rfl⟩
abbrev main_call1_call0_v102 : Ref sig .tc := ⟨.hbm, 193, rfl⟩
abbrev main_call1_call0_v103 : Ref sig .tc := ⟨.hbm, 194, rfl⟩
abbrev main_call1_call0_v104 : Ref sig .tc := ⟨.hbm, 195, rfl⟩
abbrev main_call1_call0_v105 : Ref sig .tc := ⟨.hbm, 196, rfl⟩
abbrev main_call1_call0_c_26 : Ref sig .tc := ⟨.hbm, 197, rfl⟩
abbrev main_call1_call0_v106 : Ref sig .tc := ⟨.hbm, 198, rfl⟩
abbrev main_call1_call0_v107 : Ref sig .tc := ⟨.hbm, 199, rfl⟩
abbrev main_call1_call0_v108 : Ref sig .tc := ⟨.hbm, 200, rfl⟩
abbrev main_call1_call0_c_27 : Ref sig .tc := ⟨.hbm, 201, rfl⟩
abbrev main_call1_call0_v109 : Ref sig .tc := ⟨.hbm, 202, rfl⟩
abbrev main_call1_call0_v110 : Ref sig .tc := ⟨.hbm, 203, rfl⟩
abbrev main_call1_call0_c_28 : Ref sig .tc := ⟨.hbm, 204, rfl⟩
abbrev main_call1_call0_v111 : Ref sig .tc := ⟨.hbm, 205, rfl⟩
abbrev main_call1_call0_v112 : Ref sig .tc := ⟨.hbm, 206, rfl⟩
abbrev main_call1_call0_v113 : Ref sig .tc := ⟨.hbm, 207, rfl⟩
abbrev main_call1_call0_v114 : Ref sig .tc := ⟨.hbm, 208, rfl⟩
abbrev main_call1_call0_v115 : Ref sig .tc := ⟨.hbm, 209, rfl⟩
abbrev main_call1_call0_c_29 : Ref sig .tc := ⟨.hbm, 210, rfl⟩
abbrev main_call1_call0_v116 : Ref sig .tc := ⟨.hbm, 211, rfl⟩
abbrev main_call1_call0_v117 : Ref sig .tc := ⟨.hbm, 212, rfl⟩
abbrev main_call1_call0_c_30 : Ref sig .tc := ⟨.hbm, 213, rfl⟩
abbrev main_call1_call0_v118 : Ref sig .tc := ⟨.hbm, 214, rfl⟩
abbrev main_call1_call0_v119 : Ref sig .tc := ⟨.hbm, 215, rfl⟩
abbrev main_call1_call0_v120 : Ref sig .tc := ⟨.hbm, 216, rfl⟩
abbrev main_call1_call0_v121 : Ref sig .tc := ⟨.hbm, 217, rfl⟩
abbrev main_call1_call0_v122 : Ref sig .tc := ⟨.hbm, 218, rfl⟩
abbrev main_call1_call0_c_31 : Ref sig .tc := ⟨.hbm, 219, rfl⟩
abbrev main_call1_call0_v123 : Ref sig .tc := ⟨.hbm, 220, rfl⟩
abbrev main_call1_call0_v124 : Ref sig .tc := ⟨.hbm, 221, rfl⟩
abbrev main_call1_call0_c_32 : Ref sig .tc := ⟨.hbm, 222, rfl⟩
abbrev main_call1_call0_v125 : Ref sig .tc := ⟨.hbm, 223, rfl⟩
abbrev main_call1_call0_v126 : Ref sig .tc := ⟨.hbm, 224, rfl⟩
abbrev main_call1_call0_v127 : Ref sig .tc := ⟨.hbm, 225, rfl⟩
abbrev main_call1_call0_v128 : Ref sig .tc := ⟨.hbm, 226, rfl⟩
abbrev main_call1_call0_v129 : Ref sig .tc := ⟨.hbm, 227, rfl⟩
abbrev main_call1_call0_c_33 : Ref sig .tc := ⟨.hbm, 228, rfl⟩
abbrev main_call1_call0_v130 : Ref sig .tc := ⟨.hbm, 229, rfl⟩
abbrev main_call1_call0_v131 : Ref sig .tc := ⟨.hbm, 230, rfl⟩
abbrev main_call1_call0_c_34 : Ref sig .tc := ⟨.hbm, 231, rfl⟩
abbrev main_call1_call0_v132 : Ref sig .tc := ⟨.hbm, 232, rfl⟩
abbrev main_call1_call0_v133 : Ref sig .tc := ⟨.hbm, 233, rfl⟩
abbrev main_call1_call0_v134 : Ref sig .tc := ⟨.hbm, 234, rfl⟩
abbrev main_call1_call0_v135 : Ref sig .tc := ⟨.hbm, 235, rfl⟩
abbrev main_call1_call0_v136 : Ref sig .tc := ⟨.hbm, 236, rfl⟩
abbrev main_call1_call0_v137 : Ref sig .tc := ⟨.hbm, 237, rfl⟩
abbrev main_call1_call0_v138 : Ref sig .tc := ⟨.hbm, 238, rfl⟩
abbrev main_call1_call0_v139 : Ref sig .tc := ⟨.hbm, 239, rfl⟩
abbrev main_call1_call0_c_35 : Ref sig .tc := ⟨.hbm, 240, rfl⟩
abbrev main_call1_call0_v140 : Ref sig .tc := ⟨.hbm, 241, rfl⟩
abbrev main_call1_call0_v141 : Ref sig .tc := ⟨.hbm, 242, rfl⟩
abbrev main_call1_call0_v142 : Ref sig .tc := ⟨.hbm, 243, rfl⟩
abbrev main_call1_call0_c_36 : Ref sig .tc := ⟨.hbm, 244, rfl⟩
abbrev main_call1_call0_v143 : Ref sig .tc := ⟨.hbm, 245, rfl⟩
abbrev main_call1_call0_v144 : Ref sig .tc := ⟨.hbm, 246, rfl⟩
abbrev main_call1_call0_c_37 : Ref sig .tc := ⟨.hbm, 247, rfl⟩
abbrev main_call1_call0_v145 : Ref sig .tc := ⟨.hbm, 248, rfl⟩
abbrev main_call1_call0_v146 : Ref sig .tc := ⟨.hbm, 249, rfl⟩
abbrev main_call1_call0_v147 : Ref sig .tc := ⟨.hbm, 250, rfl⟩
abbrev main_call1_call0_v148 : Ref sig .tc := ⟨.hbm, 251, rfl⟩
abbrev main_call1_call0_v149 : Ref sig .tc := ⟨.hbm, 252, rfl⟩
abbrev main_call1_call0_c_38 : Ref sig .tc := ⟨.hbm, 253, rfl⟩
abbrev main_call1_call0_v150 : Ref sig .tc := ⟨.hbm, 254, rfl⟩
abbrev main_call1_call0_v151 : Ref sig .tc := ⟨.hbm, 255, rfl⟩
abbrev main_call1_call0_c_39 : Ref sig .tc := ⟨.hbm, 256, rfl⟩
abbrev main_call1_call0_v152 : Ref sig .tc := ⟨.hbm, 257, rfl⟩
abbrev main_call1_call0_v153 : Ref sig .tc := ⟨.hbm, 258, rfl⟩
abbrev main_call1_call0_v154 : Ref sig .tc := ⟨.hbm, 259, rfl⟩
abbrev main_call1_call0_v155 : Ref sig .tc := ⟨.hbm, 260, rfl⟩
abbrev main_call1_call0_v156 : Ref sig .tc := ⟨.hbm, 261, rfl⟩
abbrev main_call1_call0_c_40 : Ref sig .tc := ⟨.hbm, 262, rfl⟩
abbrev main_call1_call0_v157 : Ref sig .tc := ⟨.hbm, 263, rfl⟩
abbrev main_call1_call0_v158 : Ref sig .tc := ⟨.hbm, 264, rfl⟩
abbrev main_call1_call0_c_41 : Ref sig .tc := ⟨.hbm, 265, rfl⟩
abbrev main_call1_call0_v159 : Ref sig .tc := ⟨.hbm, 266, rfl⟩
abbrev main_call1_call0_v160 : Ref sig .tc := ⟨.hbm, 267, rfl⟩
abbrev main_call1_call0_v161 : Ref sig .tc := ⟨.hbm, 268, rfl⟩
abbrev main_call1_call0_v162 : Ref sig .tc := ⟨.hbm, 269, rfl⟩
abbrev main_call1_call0_v163 : Ref sig .tc := ⟨.hbm, 270, rfl⟩
abbrev main_call1_call0_c_42 : Ref sig .tc := ⟨.hbm, 271, rfl⟩
abbrev main_call1_call0_v164 : Ref sig .tc := ⟨.hbm, 272, rfl⟩
abbrev main_call1_call0_v165 : Ref sig .tc := ⟨.hbm, 273, rfl⟩
abbrev main_call1_call0_c_43 : Ref sig .tc := ⟨.hbm, 274, rfl⟩
abbrev main_call1_call0_v166 : Ref sig .tc := ⟨.hbm, 275, rfl⟩
abbrev main_call1_call0_v167 : Ref sig .tc := ⟨.hbm, 276, rfl⟩
abbrev main_call1_call0_v168 : Ref sig .tc := ⟨.hbm, 277, rfl⟩
abbrev main_call1_call0_v169 : Ref sig .tc := ⟨.hbm, 278, rfl⟩
abbrev main_call1_call0_v170 : Ref sig .tc := ⟨.hbm, 279, rfl⟩
abbrev main_call1_v19_0 : Ref sig .tc := ⟨.hbm, 280, rfl⟩
abbrev main_call1_call0_v172 : Ref sig .tc := ⟨.hbm, 281, rfl⟩
abbrev main_call1_call0_v173 : Ref sig .tc := ⟨.hbm, 282, rfl⟩
abbrev main_call1_call0_c_44 : Ref sig .tc := ⟨.hbm, 283, rfl⟩
abbrev main_call1_call0_v174 : Ref sig .tc := ⟨.hbm, 284, rfl⟩
abbrev main_call1_v19_1 : Ref sig .tc := ⟨.hbm, 285, rfl⟩
abbrev main_call1_v20 : Ref sig .tc := ⟨.hbm, 286, rfl⟩
abbrev main_call1_c_2 : Ref sig .tc := ⟨.hbm, 287, rfl⟩
abbrev main_call1_v21 : Ref sig .tc := ⟨.hbm, 288, rfl⟩
abbrev main_call1_v22 : Ref sig .tc := ⟨.hbm, 289, rfl⟩
abbrev main_call1_c_3 : Ref sig .tc := ⟨.hbm, 290, rfl⟩
abbrev main_call1_v23 : Ref sig .tc := ⟨.hbm, 291, rfl⟩
abbrev main_call1_v24 : Ref sig .tc := ⟨.hbm, 292, rfl⟩
abbrev main_call1_v25 : Ref sig .tc := ⟨.hbm, 293, rfl⟩
abbrev main_call1_cst : Ref sig .tc := ⟨.hbm, 294, rfl⟩
abbrev main_call1_v26 : Ref sig .tc := ⟨.hbm, 295, rfl⟩
abbrev main_call1_v27 : Ref sig .tc := ⟨.hbm, 296, rfl⟩
abbrev main_call1_v28 : Ref sig .tc := ⟨.hbm, 297, rfl⟩
abbrev main_call1_v29 : Ref sig .tc := ⟨.hbm, 298, rfl⟩
abbrev main_call1_v30 : Ref sig .tc := ⟨.hbm, 299, rfl⟩
abbrev main_call1_v31 : Ref sig .tc := ⟨.hbm, 300, rfl⟩
abbrev main_call1_v32 : Ref sig .tc := ⟨.hbm, 301, rfl⟩
abbrev main_call1_v33 : Ref sig .tc := ⟨.hbm, 302, rfl⟩
abbrev main_v12 : Ref sig .tc := ⟨.hbm, 303, rfl⟩
abbrev main_cst_4 : Ref sig .tc := ⟨.hbm, 304, rfl⟩
abbrev main_v13 : Ref sig .tc := ⟨.hbm, 305, rfl⟩
abbrev main_v14 : Ref sig .tc := ⟨.hbm, 306, rfl⟩
abbrev main_cst_5 : Ref sig .tc := ⟨.hbm, 307, rfl⟩
abbrev main_v15 : Ref sig .tc := ⟨.hbm, 308, rfl⟩
abbrev main_v16 : Ref sig .tc := ⟨.hbm, 309, rfl⟩
abbrev main_cst_6 : Ref sig .tc := ⟨.hbm, 310, rfl⟩
abbrev main_v17 : Ref sig .tc := ⟨.hbm, 311, rfl⟩
abbrev main_v18 : Ref sig .tc := ⟨.hbm, 312, rfl⟩
abbrev main_v19 : Ref sig .tc := ⟨.hbm, 313, rfl⟩
abbrev main_v20 : Ref sig .tc := ⟨.hbm, 314, rfl⟩
abbrev main_v21 : Ref sig .tc := ⟨.hbm, 315, rfl⟩
abbrev main_v22 : Ref sig .tc := ⟨.hbm, 316, rfl⟩
abbrev main_v23 : Ref sig .tc := ⟨.hbm, 317, rfl⟩
abbrev main_v24 : Ref sig .tc := ⟨.hbm, 318, rfl⟩
abbrev main_call2_v0 : Ref sig .tc := ⟨.hbm, 319, rfl⟩
abbrev main_call2_cst : Ref sig .tc := ⟨.hbm, 320, rfl⟩
abbrev main_call2_c : Ref sig .tc := ⟨.hbm, 321, rfl⟩
abbrev main_call2_v1_0 : Ref sig .tc := ⟨.hbm, 322, rfl⟩
abbrev main_v25 : Ref sig .tc := ⟨.hbm, 323, rfl⟩

abbrev nD : Nat := 1
abbrev τ : Topo := Topo.v7x

variable {F : FTy → Type} [FloatOps F]
-- ==== Proof.Threefry.lean ====
/- The hash of both programs, on one pair of words: Threefry-2x32 with its twenty rounds. Both programs run it on whole arrays, element by element; what an element sees is stated here once. -/
module

public import Idealize.ShloMosaic.Init

@[expose] public section

namespace Cert.Proof

/-- A 32-bit word. -/
abbrev Word : Type := BitVec 32

/-- One round, rotating left by `l` (and `r = 32 - l`): the first word becomes the sum, the second its rotation against that sum. -/
def mix (l r : Word) (p : Word × Word) : Word × Word :=
  (p.1 + p.2, (p.1 + p.2) ^^^ (p.2 <<< l ||| p.2 >>> r))

/-- The four rounds of the odd groups. -/
def mixOdd (p : Word × Word) : Word × Word := mix 6#32 26#32 (mix 26#32 6#32 (mix 15#32 17#32 (mix 13#32 19#32 p)))

/-- The four rounds of the even groups. -/
def mixEven (p : Word × Word) : Word × Word := mix 24#32 8#32 (mix 16#32 16#32 (mix 29#32 3#32 (mix 17#32 15#32 p)))

/-- The key words that enter after a group of rounds, with the group's number. -/
def inject (k k' n : Word) (p : Word × Word) : Word × Word := (p.1 + k, p.2 + k' + n)

/-- Threefry-2x32 of the pair `p` under the key `(k, k')`. -/
def threefry (k k' : Word) (p : Word × Word) : Word × Word :=
  let q := k ^^^ k' ^^^ 466688986#32
  inject q k 5#32 (mixOdd (inject k' q 4#32 (mixEven (inject k k' 3#32 (mixOdd (inject q k 2#32 (mixEven
    (inject k' q 1#32 (mixOdd (p.1 + k, p.2 + k'))))))))))

/-- The key words folded into one addition each, as the kernel has them. -/
def fold (a b : Word) (p : Word × Word) : Word × Word := (p.1 + a, p.2 + b)

/-- The kernel's two words for the counter `x`: the key is (0, 42), the counter's first word 0, and every constant sum is folded. -/
def hashPair (x : Word) : Word × Word :=
  fold 466689008#32 5#32 (mixOdd (fold 42#32 466689012#32 (mixEven (fold 0#32 45#32 (mixOdd
    (fold 466689008#32 2#32 (mixEven (fold 42#32 466689009#32 (mixOdd (0#32, x + 42#32))))))))))

/-- The kernel's hash of the counter `x`. -/
def hashWord (x : Word) : Word := (hashPair x).1 ^^^ (hashPair x).2

/-- The kernel's folded form is Threefry's two words exclusive-or'd. -/
theorem hashWord_eq (x : Word) :
    hashWord x = (threefry 0#32 42#32 (0#32, x)).1 ^^^ (threefry 0#32 42#32 (0#32, x)).2 := by
  have hq : (0#32 ^^^ 42#32 ^^^ 466688986#32 : Word) = 466689008#32 := by decide
  have hf : ∀ (a b n : Word) (p : Word × Word), inject a b n p = fold a (b + n) p := fun a b n p => by
    simp only [inject, fold, BitVec.add_assoc]
  have e1 : (466689008#32 + 1#32 : Word) = 466689009#32 := by decide
  have e2 : (0#32 + 2#32 : Word) = 2#32 := by decide
  have e3 : (42#32 + 3#32 : Word) = 45#32 := by decide
  have e4 : (466689008#32 + 4#32 : Word) = 466689012#32 := by decide
  have e5 : (0#32 + 5#32 : Word) = 5#32 := by decide
  have e6 : (0#32 + 0#32 : Word) = 0#32 := by decide
  unfold hashWord hashPair threefry
  simp only [hf, hq, e1, e2, e3, e4, e5, e6]

end Cert.Proof

end
-- ==== Proof.KernelPass.lean ====
/- One pass of the kernel: the 2048 rows from a base on, sixteen counters each, hashed together. The kernel runs eight of them, printed one after another; each is this function of its base. -/
module

public import proofs.«01_k».proof.Proof.Gen.KernelIdeal.Frame
public import proofs.«01_k».proof.Proof.Threefry

@[expose] public section

noncomputable section

namespace Cert.Proof

open Idealize.ShloMosaic Idealize.SL.Sem Cert.KernelIdeal Cert.KernelIdeal.Gen

variable {F : FTy → Type} [FloatOps F]

/-- The words of one pass. -/
local notation "Words" => IVec S16x2048 32

/-- Every word rotated left by `l`. -/
def rotAll (l r : BitVec 32) (x : Words) : Words := ori (shli x (broadcast S16x2048 l)) (shrui x (broadcast S16x2048 r))

/-- One round on a pair of word arrays. -/
def mixAll (l r : BitVec 32) (p : Words × Words) : Words × Words := (addi p.1 p.2, xori (rotAll l r p.2) (addi p.1 p.2))

/-- The constants after a group of rounds. -/
def foldAll (a b : BitVec 32) (p : Words × Words) : Words × Words := (addi p.1 (broadcast S16x2048 a), addi p.2 (broadcast S16x2048 b))

/-- The four rounds of an odd group, on whole arrays. -/
def oddAll (p : Words × Words) : Words × Words := mixAll 6#32 26#32 (mixAll 26#32 6#32 (mixAll 15#32 17#32 (mixAll 13#32 19#32 p)))
/-- The four rounds of an even group, on whole arrays. -/
def evenAll (p : Words × Words) : Words × Words := mixAll 24#32 8#32 (mixAll 16#32 16#32 (mixAll 29#32 3#32 (mixAll 17#32 15#32 p)))

/-- The first round: the first words are zero, so the sum is the second. -/
def firstAll (x : Words) : Words × Words := (x, xori (rotAll 13#32 19#32 x) x)

/-- The counters of the pass whose first row's counter is `base`, the key word added: sixteen a row, the row along the lanes. -/
def counters (base : BitVec 32) : Words :=
  addi (ori (addi (broadcast S16x2048 base) (shli (iota .tc S16x2048 32 [1] iota_S16x2048_d1_w32) (broadcast S16x2048 4#32)))
    (iota .tc S16x2048 32 [0] iota_S16x2048_d0_w32)) (broadcast S16x2048 42#32)

/-- All five groups. -/
def hashAll (x : Words) : Words × Words :=
  foldAll 466689008#32 5#32 (oddAll (foldAll 42#32 466689012#32 (evenAll (foldAll 0#32 45#32 (oddAll
    (foldAll 466689008#32 2#32 (evenAll (foldAll 42#32 466689009#32
      (mixAll 6#32 26#32 (mixAll 26#32 6#32 (mixAll 15#32 17#32 (firstAll x))))))))))))

/-- The uniform numbers of a pass. -/
def uniformAll (base : BitVec 32) : FVec F S16x2048 .f32 :=
  addf (subf (bitcastToFloat .f32 (ori (shrui (xori (hashAll (counters base)).1 (hashAll (counters base)).2) (broadcast S16x2048 9#32))
    (broadcast S16x2048 1065353216#32))) (broadcast S16x2048 (Scalar.ofBits .f32 0x3F800000#32)))
    (broadcast S16x2048 (Scalar.ofBits .f32 0x00800000#32))

/-- The scores of a pass, under the column `w`. -/
def scoresAll (w : FVec F S16x1 .f32) (base : BitVec 32) : FVec F S16x2048 .f32 :=
  mulf (log (uniformAll base)) (broadcastTo S16x2048 w broadcasts_S16x1_S16x2048)

/-- What the kernel stores for the 2048 rows from row `h` on: per row the first counter whose score is the greatest. -/
def rowsFrom (i : grid0.Coords) (w : FVec F S16x1 .f32) (h : BitVec 32) : IVec S2048 32 :=
  k0_pay1 (scoresAll w (Scalar.muli (Scalar.addi (Scalar.muli (BitVec.ofNat 32 (i 0).val) 16384#32) h) 16#32))

/-- The kernel's eight stores are one function of the row they start at. -/
theorem out_eq (i : grid0.Coords) (x0 : Vec F S16x100 .f32) :
    out0_1 i x0 = View.canon [⟨r0_8, rowsFrom i (k0_pay2 (View.ld x0 r0_0)) 14336#32⟩, ⟨r0_7, rowsFrom i (k0_pay2 (View.ld x0 r0_0)) 12288#32⟩,
      ⟨r0_6, rowsFrom i (k0_pay2 (View.ld x0 r0_0)) 10240#32⟩, ⟨r0_5, rowsFrom i (k0_pay2 (View.ld x0 r0_0)) 8192#32⟩,
      ⟨r0_4, rowsFrom i (k0_pay2 (View.ld x0 r0_0)) 6144#32⟩, ⟨r0_3, rowsFrom i (k0_pay2 (View.ld x0 r0_0)) 4096#32⟩,
      ⟨r0_2, rowsFrom i (k0_pay2 (View.ld x0 r0_0)) 2048#32⟩, ⟨r0_1, rowsFrom i (k0_pay2 (View.ld x0 r0_0)) 0#32⟩] := by
  chain_rfl

end Cert.Proof

end
-- ==== Proof.KernelHash.lean ====
/- The hash of a pass of the kernel, read at one index: the word hash of the counter there. -/
module

public import proofs.«01_k».proof.Proof.KernelPass
public import Idealize.ShloMosaic.Lib.Pointwise

@[expose] public section

noncomputable section

namespace Cert.Proof

open Idealize.ShloMosaic Idealize.ShloMosaic.ValueIdx Idealize.SL.Sem Cert.KernelIdeal Cert.KernelIdeal.Gen

/-- The words of one pass. -/
local notation "Words" => IVec S16x2048 32

/-- The pair of words two arrays hold at an index. -/
def pairAt (p : Words × Words) (j : S16x2048.Idx) : Word × Word := (p.1 j, p.2 j)

/-- A rotation at an index. -/
theorem rotAll_at (l r : Word) (hl : l.toNat < 32) (hr : r.toNat < 32) (x : Words) (j : S16x2048.Idx) :
    rotAll l r x j = x j <<< l ||| x j >>> r := by
  simp only [rotAll, pointwise, IntOp.shli, IntOp.shrui, hl, hr, if_true]
  rfl

/-- A round at an index. -/
theorem mixAll_at (l r : Word) (hl : l.toNat < 32) (hr : r.toNat < 32) (p : Words × Words) (j : S16x2048.Idx) :
    pairAt (mixAll l r p) j = mix l r (pairAt p j) := by
  refine Prod.ext rfl ?_
  show rotAll l r p.2 j ^^^ (p.1 j + p.2 j) = _
  rw [rotAll_at l r hl hr, BitVec.xor_comm]
  rfl

/-- An entry of the array's key step is the key step of the entry. -/
theorem foldAll_at (a b : Word) (p : Words × Words) (j : S16x2048.Idx) : pairAt (foldAll a b p) j = fold a b (pairAt p j) := rfl

/-- An entry of the array's first round is the first round of the entry, the upper counter word being 0. -/
theorem firstAll_at (x : Words) (j : S16x2048.Idx) : pairAt (firstAll x) j = mix 13#32 19#32 (0#32, x j) := by
  refine Prod.ext (BitVec.zero_add _).symm ?_
  show rotAll 13#32 19#32 x j ^^^ x j = (0#32 + x j) ^^^ _
  rw [rotAll_at _ _ (by decide) (by decide), BitVec.xor_comm, BitVec.zero_add]

/-- The hash of a pass at an index is the hash of the word there. -/
theorem hashAll_at (x : Words) (j : S16x2048.Idx) (c : Word) (hx : x j = c + 42#32) :
    (hashAll x).1 j ^^^ (hashAll x).2 j = hashWord c := by
  have h : pairAt (hashAll x) j = hashPair c := by
    simp only [hashAll, hashPair, oddAll, evenAll, mixOdd, mixEven, foldAll_at, firstAll_at, hx, mixAll_at,
      BitVec.reduceToNat, Nat.reduceLT]
  show (pairAt (hashAll x) j).1 ^^^ (pairAt (hashAll x) j).2 = _
  rw [h, hashWord]

/-- Sixteen counters a row: the row's counter with the column put in its four low bits. -/
theorem counter_eq (n a q : Nat) (ha : a < 16) (hn : n + q < 2 ^ 28) :
    (BitVec.ofNat 32 (16 * n) + (BitVec.ofNat 32 q) <<< (4#32)) ||| BitVec.ofNat 32 a = BitVec.ofNat 32 (16 * (n + q) + a) := by
  have e : BitVec.ofNat 32 (16 * n) + (BitVec.ofNat 32 q) <<< (4#32) = BitVec.ofNat 32 ((n + q) <<< 4) := by
    apply BitVec.eq_of_toNat_eq
    simp [BitVec.toNat_add, BitVec.toNat_ofNat, Nat.shiftLeft_eq]
    omega
  rw [e, ← BitVec.ofNat_or, ← Nat.shiftLeft_add_eq_or_of_lt (by omega), Nat.shiftLeft_eq]
  congr 1; omega

/-- The counter at row offset `j 1` and column `j 0` of the pass from row `n`, with the key word added. -/
theorem counters_at (n : Nat) (j : S16x2048.Idx) (hn : n + 2048 < 2 ^ 28) :
    counters (BitVec.ofNat 32 (16 * n)) j = BitVec.ofNat 32 (16 * (n + (j 1).val) + (j 0).val) + 42#32 := by
  have h0 : (j 0).val < 16 := (j 0).isLt
  have h1 : (j 1).val < 2048 := (j 1).isLt
  rw [← counter_eq n (j 0).val (j 1).val h0 (by omega)]
  simp only [counters, pointwise, List.foldl, Nat.zero_mul, Nat.zero_add]
  rfl

end Cert.Proof

end
-- ==== Proof.First.lean ====
/- The first index of the greatest of sixteen scores: what it is, that it exists, and that both programs' ways of finding it find it. The kernel takes the least index among those whose score equals the maximum; the reference folds (score, index) pairs from the left. -/
module

public import Idealize.ShloMosaic.Init
public import Idealize.ShloMosaic.PureOps.Ideal.Laws
public import Idealize.ShloMosaic.Lib.SortNet.Extract
public import proofs.«01_k».proof.ReferenceIdeal

@[expose] public section

noncomputable section

namespace Cert.Proof

open Idealize.ShloMosaic

/-- `k` is the first index whose score is the greatest. -/
def IsFirst (t : Fin 16 → EReal) (k : Fin 16) : Prop := (∀ a, t a ≤ t k) ∧ ∀ a, a < k → t a < t k

/-- Sixteen scores have such an index. -/
theorem exists_isFirst (t : Fin 16 → EReal) : ∃ k, IsFirst t k := by
  obtain ⟨g, -, hg⟩ := Finset.exists_max_image Finset.univ t ⟨0, Finset.mem_univ _⟩
  have hne : (Finset.univ.filter fun k => ∀ a, t a ≤ t k).Nonempty := ⟨g, by simpa using fun a => hg a (Finset.mem_univ a)⟩
  refine ⟨(Finset.univ.filter fun k => ∀ a, t a ≤ t k).min' hne, ?_, fun a ha => ?_⟩
  · simpa using Finset.min'_mem _ hne
  · have hk : ∀ b, t b ≤ t ((Finset.univ.filter fun k => ∀ a, t a ≤ t k).min' hne) := by simpa using Finset.min'_mem _ hne
    by_contra hlt
    exact absurd (Finset.min'_le _ a (by simpa using fun b => (hk b).trans (not_lt.1 hlt))) (not_le.2 ha)

/-- Scores ordered alike have the same first index of the greatest. -/
theorem IsFirst.congr {t r : Fin 16 → EReal} (h : ∀ a b, t a ≤ t b ↔ r a ≤ r b) {k : Fin 16} (hk : IsFirst t k) : IsFirst r k :=
  ⟨fun a => (h a k).1 (hk.1 a), fun a ha => lt_of_not_ge fun hc => absurd ((h k a).2 hc) (not_le.2 (hk.2 a ha))⟩

/-- The index as a signed number. -/
theorem toInt_index (a : Fin 16) : (BitVec.ofNat 32 a.val).toInt = (a.val : ℤ) := by
  revert a; decide

/-- THE KERNEL'S WAY: the least of the indices whose score equals the maximum, the others counting as 16. -/
theorem fold_minsi_eq {t : Fin 16 → EReal} {k : Fin 16} (hk : IsFirst t k) (M : EReal) (hM : M = (Finset.univ : Finset (Fin 16)).fold max ⊥ t) :
    (Finset.univ : Finset (Fin 16)).fold IntOp.minsi 2147483647#32
      (fun a => Scalar.select (Ideal.cmp .oeq (t a) M) (BitVec.ofNat 32 a.val) 16#32) = BitVec.ofNat 32 k.val := by
  have hMk : M = t k := by
    rw [hM]
    exact le_antisymm ((Finset.fold_max_le _).2 ⟨bot_le, fun a _ => hk.1 a⟩) ((Finset.le_fold_max _).2 (Or.inr ⟨k, Finset.mem_univ _, le_rfl⟩))
  have hv : ∀ a, (Scalar.select (Ideal.cmp .oeq (t a) M) (BitVec.ofNat 32 a.val) 16#32).toInt = if t a = t k then (a.val : ℤ) else 16 := by
    intro a
    rw [hMk]
    by_cases h : t a = t k
    · simp [Scalar.select, Ideal.cmp, h, toInt_index]
    · simp [Scalar.select, Ideal.cmp, h]
  refine BitVec.eq_of_toInt_eq ?_
  rw [toInt_index, Finset.fold_hom (op' := min) (m := BitVec.toInt) SortNet.toInt_minsi |>.symm]
  refine le_antisymm ((Finset.fold_min_le _).2 (Or.inr ⟨k, Finset.mem_univ _, by rw [hv, if_pos rfl]⟩))
    ((Finset.le_fold_min _).2 ⟨by have := k.isLt; simp; omega, fun a _ => ?_⟩)
  rw [hv]
  split
  · next h =>
    have : ¬ a < k := fun ha => absurd h (hk.2 a ha).ne
    exact_mod_cast not_lt.1 this
  · have := k.isLt; omega

/-- A pair no better than another: a smaller score, or the same at an index no smaller. -/
def NoBetter (q p : EReal × BitVec 32) : Prop := q.1 < p.1 ∨ (q.1 = p.1 ∧ p.2.toInt ≤ q.2.toInt)

/-- A pair is no better than itself. -/
theorem NoBetter.refl (p : EReal × BitVec 32) : NoBetter p p := Or.inr ⟨rfl, le_rfl⟩

/-- Being no better carries over. -/
theorem NoBetter.trans {a b c : EReal × BitVec 32} (h : NoBetter a b) (h' : NoBetter b c) : NoBetter a c := by
  rcases h with h | ⟨h, g⟩ <;> rcases h' with h' | ⟨h', g'⟩
  · exact Or.inl (h.trans h')
  · exact Or.inl (h' ▸ h)
  · exact Or.inl (h ▸ h')
  · exact Or.inr ⟨h.trans h', g'.trans g⟩

/-- The reference's body returns one of its two pairs, and neither is better than it. -/
theorem reducer_spec (p q : EReal × BitVec 32) :
    (Cert.ReferenceIdeal.reducer_argmax_f32_i32 (F := Ideal) p q = p ∨ Cert.ReferenceIdeal.reducer_argmax_f32_i32 (F := Ideal) p q = q)
      ∧ NoBetter p (Cert.ReferenceIdeal.reducer_argmax_f32_i32 (F := Ideal) p q)
      ∧ NoBetter q (Cert.ReferenceIdeal.reducer_argmax_f32_i32 (F := Ideal) p q) := by
  obtain ⟨p1, p2⟩ := p
  obtain ⟨q1, q2⟩ := q
  have e : Cert.ReferenceIdeal.reducer_argmax_f32_i32 (F := Ideal) (p1, p2) (q1, q2)
      = if q1 < p1 then (p1, p2) else if p1 = q1 ∧ p2.slt q2 then (p1, p2) else (q1, q2) := by
    rcases lt_trichotomy p1 q1 with h | h | h
    · have h1 : ¬ q1 < p1 := h.not_gt
      have h2 : ¬ p1 = q1 := h.ne
      simp [Cert.ReferenceIdeal.reducer_argmax_f32_i32, Ideal.cmpf_def, Ideal.cmp, Scalar.select, IntOp.ori, IntOp.andi, h1, h2]
    · subst h
      by_cases hs : p2.slt q2 = true
      · simp [Cert.ReferenceIdeal.reducer_argmax_f32_i32, Ideal.cmpf_def, Ideal.cmp, Scalar.select, IntOp.ori, IntOp.andi, IntOp.cmpi, hs]
      · simp [Cert.ReferenceIdeal.reducer_argmax_f32_i32, Ideal.cmpf_def, Ideal.cmp, Scalar.select, IntOp.ori, IntOp.andi, IntOp.cmpi, hs]
    · have h2 : ¬ p1 = q1 := h.ne'
      simp [Cert.ReferenceIdeal.reducer_argmax_f32_i32, Ideal.cmpf_def, Ideal.cmp, Scalar.select, IntOp.ori, IntOp.andi, h, h2]
  rw [e]
  split
  · next h => exact ⟨Or.inl rfl, NoBetter.refl _, Or.inl h⟩
  · next h =>
    split
    · next hs =>
      exact ⟨Or.inl rfl, NoBetter.refl _, Or.inr ⟨hs.1.symm, (BitVec.slt_iff_toInt_lt.1 hs.2).le⟩⟩
    · next hs =>
      refine ⟨Or.inr rfl, ?_, NoBetter.refl _⟩
      rcases lt_or_eq_of_le (not_lt.1 h) with hl | he
      · exact Or.inl hl
      · exact Or.inr ⟨he, not_lt.1 fun hc => hs ⟨he, BitVec.slt_iff_toInt_lt.2 hc⟩⟩

/-- So folding it returns one of the pairs folded, and none of them is better. -/
theorem foldl_reducer_spec (L : List (EReal × BitVec 32)) (p : EReal × BitVec 32) :
    L.foldl (Cert.ReferenceIdeal.reducer_argmax_f32_i32 (F := Ideal)) p ∈ p :: L
      ∧ ∀ q ∈ p :: L, NoBetter q (L.foldl (Cert.ReferenceIdeal.reducer_argmax_f32_i32 (F := Ideal)) p) := by
  induction L generalizing p with
  | nil => exact ⟨List.mem_singleton_self _, fun q hq => by rw [List.mem_singleton.1 hq]; exact NoBetter.refl _⟩
  | cons x L ih =>
    obtain ⟨hm, hb⟩ := ih (Cert.ReferenceIdeal.reducer_argmax_f32_i32 (F := Ideal) p x)
    obtain ⟨hc, hp, hx⟩ := reducer_spec p x
    have h0 := hb _ List.mem_cons_self
    rw [List.foldl_cons]
    refine ⟨?_, fun q hq => ?_⟩
    · rcases List.mem_cons.1 hm with h | h
      · rw [h]; rcases hc with h' | h' <;> rw [h'] <;> simp
      · exact List.mem_cons_of_mem _ (List.mem_cons_of_mem _ h)
    · rcases List.mem_cons.1 hq with rfl | hq
      · exact hp.trans h0
      · rcases List.mem_cons.1 hq with rfl | hq
        · exact hx.trans h0
        · exact hb q (List.mem_cons_of_mem _ hq)

/-- THE REFERENCE'S WAY: the left fold over any list holding exactly the sixteen (score, index) pairs. -/
theorem foldl_reducer_eq {r : Fin 16 → EReal} {k : Fin 16} (hk : IsFirst r k) (L : List (EReal × BitVec 32))
    (hL : ∀ q, q ∈ L ↔ ∃ a : Fin 16, q = (r a, BitVec.ofNat 32 a.val)) :
    (L.foldl (Cert.ReferenceIdeal.reducer_argmax_f32_i32 (F := Ideal)) (⊥, 0#32)).2 = BitVec.ofNat 32 k.val := by
  obtain ⟨hm, hb⟩ := foldl_reducer_spec L (⊥, 0#32)
  have hkb := hb _ (List.mem_cons_of_mem _ ((hL _).2 ⟨k, rfl⟩))
  generalize L.foldl (Cert.ReferenceIdeal.reducer_argmax_f32_i32 (F := Ideal)) (⊥, 0#32) = p at hm hkb
  rcases List.mem_cons.1 hm with h | h
  · subst h
    rcases hkb with hlt | ⟨he, -⟩
    · exact absurd hlt not_lt_bot
    · have h0 : ¬ (0 : Fin 16) < k := fun h0 => absurd (hk.2 0 h0) (by rw [show r k = ⊥ from he]; exact not_lt_bot)
      have : k = 0 := le_antisymm (not_lt.1 h0) (Fin.zero_le _)
      rw [this]; rfl
  · obtain ⟨a, rfl⟩ := (hL _).1 h
    rcases hkb with hlt | ⟨he, hi⟩
    · exact absurd hlt (not_lt.2 (hk.1 a))
    · have h1 : a ≤ k := by
        have : ((a.val : ℤ)) ≤ k.val := by rw [← toInt_index, ← toInt_index]; exact hi
        exact_mod_cast this
      have h2 : ¬ a < k := fun h2 => absurd he (hk.2 a h2).ne'
      rw [le_antisymm h1 (not_lt.1 h2)]

end Cert.Proof

end
-- ==== Proof.KernelValue.lean ====
/- The block the kernel's body writes: at row `b` the first index of the greatest of row `b`'s sixteen scores. -/
module

public import proofs.«01_k».proof.Proof.Gen.KernelIdeal.Value
public import proofs.«01_k».proof.Proof.KernelHash
public import proofs.«01_k».proof.Proof.First
public import Idealize.ShloMosaic.Lib.Pipeline.ValueKit

@[expose] public section

noncomputable section

namespace Cert.Proof

open Idealize.ShloMosaic Idealize.SL.Sem Cert.KernelIdeal Cert.KernelIdeal.Gen

/-! ## The scores of a pass -/

/-- The uniform number a hash gives: its 23 high bits as the fraction of a number from 1 to 2, less 1, plus the least normal number. -/
def uniformWord {F : FTy → Type} [FloatOps F] (w : Word) : F .f32 :=
  FloatOps.addf (FloatOps.subf (FloatOps.ofBits .f32 (w >>> 9#32 ||| 1065353216#32)) (FloatOps.ofBits .f32 0x3F800000#32))
    (FloatOps.ofBits .f32 0x00800000#32)

/-- An entry of a pass's uniform numbers is the uniform number of its counter's hash word. -/
theorem uniformAll_at {F : FTy → Type} [FloatOps F] (n : Nat) (j : S16x2048.Idx) (hn : n + 2048 < 2 ^ 28) :
    uniformAll (F := F) (BitVec.ofNat 32 (16 * n)) j = uniformWord (hashWord (BitVec.ofNat 32 (16 * (n + (j 1).val) + (j 0).val))) := by
  rw [← hashAll_at (counters (BitVec.ofNat 32 (16 * n))) j (BitVec.ofNat 32 (16 * (n + (j 1).val) + (j 0).val)) (counters_at n j hn)]
  unfold uniformAll
  generalize hashAll (counters (BitVec.ofNat 32 (16 * n))) = H
  rfl

/-- The kernel's score of column `a`: the logarithm of the uniform number times the table row's sum over its entry. -/
def kernelScore (p : Fin 16 → EReal) (u : Fin 16 → EReal) (a : Fin 16) : EReal := Ideal.log (u a) * Ideal.div (∑ k, p k) (p a)

/-- The column the scores are multiplied by. -/
theorem weights_at (x : FVec Ideal S16x1 .f32) (j : S16x1.Idx) :
    k0_pay2 (F := Ideal) x j = Ideal.div (∑ k, x (ix2 k 0)) (x (ix2 (j 0) 0)) := by
  have hj : j = ix2 (j 0) 0 := by
    funext a; apply Fin.ext
    match a with
    | ⟨0, _⟩ => rfl
    | ⟨1, _⟩ => have : (j 1).val < 1 := (j 1).isLt; show (j 1).val = 0; omega
  rw [hj]
  simp only [k0_pay2, pointwise]

/-- A score, from the uniform numbers of the pass. -/
theorem score_of_uniform (U : FVec Ideal S16x2048 .f32) (x : FVec Ideal S16x1 .f32) (a : Fin 16) (q : Fin 2048) :
    mulf (log U) (broadcastTo S16x2048 (k0_pay2 (F := Ideal) x) broadcasts_S16x1_S16x2048) (ix2 a q)
      = kernelScore (fun k => x (ix2 k 0)) (fun a => U (ix2 a q)) a := by
  simp only [kernelScore, pointwise, weights_at]
  rfl

/-- Row `q` of a pass from row `n`, at column `a`. -/
theorem scoresAll_at (x : FVec Ideal S16x1 .f32) (n : Nat) (hn : n + 2048 < 2 ^ 28) (a : Fin 16) (q : Fin 2048) :
    scoresAll (F := Ideal) (k0_pay2 x) (BitVec.ofNat 32 (16 * n)) (ix2 a q)
      = kernelScore (fun k => x (ix2 k 0)) (fun a => uniformWord (F := Ideal) (hashWord (BitVec.ofNat 32 (16 * (n + q.val) + a.val)))) a := by
  unfold scoresAll
  rw [score_of_uniform]
  refine congrArg (fun u => kernelScore _ u a) (funext fun a => ?_)
  exact uniformAll_at n (ix2 a q) hn

/-- The pass's answer at a row whose scores have their first greatest at `k`. -/
theorem firstOf_at (t : FVec Ideal S16x2048 .f32) (q : S2048.Idx) (k : Fin 16) (hk : IsFirst (fun a => t (ix2 a (q 0))) k) :
    k0_pay1 (F := Ideal) t q = BitVec.ofNat 32 k.val := by
  rw [← fold_minsi_eq hk _ rfl]
  simp only [k0_pay1, pointwise]
  rfl

/-! ## The eight stores together -/

/-- The scores of row `b` of the sample under the table row `p`. -/
def kernelScores (p : Fin 16 → EReal) (b : Nat) : Fin 16 → EReal :=
  kernelScore p fun a => uniformWord (F := Ideal) (hashWord (BitVec.ofNat 32 (16 * b + a.val)))

/-- The first counter of the pass from row `n`: the grid has one point. -/
theorem base_eq (i : grid0.Coords) (n : Nat) :
    Scalar.muli (Scalar.addi (Scalar.muli (BitVec.ofNat 32 (i 0).val) 16384#32) (BitVec.ofNat 32 n)) 16#32 = BitVec.ofNat 32 (16 * n) := by
  have hi : (i 0).val = 0 := by have : (i 0).val < 1 := (i 0).isLt; omega
  rw [hi]
  show (BitVec.ofNat 32 0 * 16384#32 + BitVec.ofNat 32 n) * 16#32 = _
  apply BitVec.eq_of_toNat_eq
  simp [BitVec.toNat_mul, BitVec.toNat_add, Nat.mul_comm]

/-- What the pass from row `n` stores at a row it covers. -/
theorem rowsFrom_at (i : grid0.Coords) (x0 : Vec Ideal S16x100 .f32) (b : S16384.Idx) (k : Fin 16)
    (hk : IsFirst (kernelScores (fun a => x0 (ix2 a 0)) (b 0).val) k) (n : Nat) (hn : n + 2048 < 2 ^ 28) :
    View.TileAt (Val := Elt Ideal) (e := .i32) b ![n] S2048.size (rowsFrom (F := Ideal) i (k0_pay2 (View.ld x0 r0_0)) (BitVec.ofNat 32 n))
      (BitVec.ofNat 32 k.val) := by
  intro q hq
  have hb : (b 0).val = n + (q 0).val := hq 0
  unfold rowsFrom
  rw [base_eq]
  refine firstOf_at _ q k ?_
  have hs : (fun a => scoresAll (F := Ideal) (k0_pay2 (View.ld x0 r0_0)) (BitVec.ofNat 32 (16 * n)) (ix2 a (q 0)))
      = kernelScores (fun a => x0 (ix2 a 0)) (b 0).val := by
    funext a
    have hl : (fun k : Fin 16 => View.ld x0 r0_0 (ix2 k 0)) = fun k => x0 (ix2 k 0) :=
      funext fun k => View.ld_unit_apply_of x0 _ _ _ _ (ix2 k 0) fun d => by
        match d with
        | ⟨0, _⟩ => show k.val = 0 + k.val; omega
        | ⟨1, _⟩ => rfl
    rw [scoresAll_at _ n hn a (q 0), hl, hb]
    rfl
  rw [hs]
  exact hk

/-- The whole output at row `b`. -/
theorem out_at (i : grid0.Coords) (x0 : Vec Ideal S16x100 .f32) (b : S16384.Idx) (k : Fin 16)
    (hk : IsFirst (kernelScores (fun a => x0 (ix2 a 0)) (b 0).val) k) : out0_1 (F := Ideal) i x0 b = BitVec.ofNat 32 k.val := by
  have tile : ∀ n : Nat, n + 2048 < 2 ^ 28 → _ := rowsFrom_at i x0 b k hk
  rw [out_eq]
  refine View.canon_eq_of_allAt _ b _ (View.cover_of_tiled_head _ _ _ rfl b) ?_
  exact View.allAt_cons_unit _ _ _ _ _ (tile 14336 (by decide)) <| View.allAt_cons_unit _ _ _ _ _ (tile 12288 (by decide)) <|
    View.allAt_cons_unit _ _ _ _ _ (tile 10240 (by decide)) <| View.allAt_cons_unit _ _ _ _ _ (tile 8192 (by decide)) <|
    View.allAt_cons_unit _ _ _ _ _ (tile 6144 (by decide)) <| View.allAt_cons_unit _ _ _ _ _ (tile 4096 (by decide)) <|
    View.allAt_cons_unit _ _ _ _ _ (tile 2048 (by decide)) <| View.allAt_cons_unit _ _ _ _ _ (tile 0 (by decide)) <| View.allAt_nil _ _

end Cert.Proof

end
-- ==== Proof.KernelRun.lean ====
/- What the kernel's run leaves in its result: at row `b` the first index of the greatest of row `b`'s sixteen scores, under the table's first row. -/
module

public import proofs.«01_k».proof.Proof.KernelValue
public import Idealize.ShloMosaic.Lib.StableHlo.ReadAt

@[expose] public section

noncomputable section

namespace Cert.Proof

open Idealize.ShloMosaic Idealize.SL.Sem Idealize.ShloMosaic.TcCoe Cert.KernelIdeal Cert.KernelIdeal.Gen

variable (m : (ℓ : Loc nD τ sig) → Buf (Elt Ideal) ℓ)

/-- Every window's block index at the one point (decided). -/
theorem index_zero : ∀ t : Fin cfg0.N, win0_0.index t = ![0, 0] ∧ win0_1.index t = ![0] :=
  (by decide +kernel : ∀ t : Fin grid0.N, _)

/-- The table as the region finds it is its transpose. -/
theorem table_eq (c : Dev nD) : V m c main_v0 = transpose S16x100 [1, 0] (m ((c : Thread nD τ).loc main_arg1)) transposes_S100x16_S16x100_1_0 := by
  rfl

/-- The input block's first column is the table's first row. -/
theorem block_at (c : Dev nD) (a : Fin 16) : iblk m c 0 t0_0 (ix2 a 0) = m ((c : Thread nD τ).loc main_arg1) (ix2 0 a) := by
  have e : iblk m c 0 t0_0 = V m c main_v0 := by blk_ext! [iblk, index_zero t0_0]
  rw [e, table_eq]
  simp only [pointwise]

/-- After the run the result at row `b` is the first index of the greatest of its sixteen scores. -/
theorem final_at (c : Dev nD) (b : S16384.Idx) (k : Fin 16)
    (hk : IsFirst (kernelScores (fun a => m ((c : Thread nD τ).loc main_arg1) (ix2 0 a)) (b 0).val) k) :
    (dats m 0 c).arrAt 1 cfg0.N b = BitVec.ofNat 32 k.val := by
  have hr : (dats m 0 c).arrAt 1 cfg0.N = out0_1 (grid0.coords t0_0) (iblk m c 0 t0_0) := by
    refine (dats m 0 c).arrAt_eq_of_after_last 1 t0_0 (by decide +kernel) _ fun j => ?_
    blk_simp
    rw [after0_1]
  rw [hr]
  refine out_at _ _ b k ?_
  simp only [block_at]
  exact hk

end Cert.Proof

end
-- ==== Proof.Steps.lean ====
module

public import Idealize.ShloMosaic.Lib.StableHlo.Run
public import Idealize.ShloMosaic.Lib.StableHlo.RunHlo

@[expose] public section

/-!
# Straight-line host programs in which every buffer is written once

A `Step` is one host operation together with the buffers it reads, the buffer it writes, and the equation
it leaves behind between their contents.  If the steps write buffers in ascending order and read only earlier
ones, then no later step disturbs what an earlier step read or wrote, so that AT THE END all the equations hold
at once (`law_after`).  The run of a long program is then a set of equations between final contents.
-/

namespace Cert.Proof

open Idealize.ShloMosaic Idealize.ShloMosaic.StableHlo

variable {τ : Topo} {sig : RefSig} {Val : EltTy → Type}

/-- What the buffer of a typed reference holds, at the type of its value. -/
def val {T : BufTy} (V : Valuation τ sig Val) (x : TRef sig T) : T.Contents Val :=
  x.ofBuf (V (Proc.devRef .tc x.ref))

/-- One host operation, with what it reads, what it writes and the equation it establishes. -/
structure Step (τ : Topo) (sig : RefSig) (Val : EltTy → Type) where
  /-- The operation. -/
  op : HloOp τ sig Val
  /-- The buffers it reads. -/
  reads : List (Ref sig .tc)
  /-- The buffer it writes. -/
  out : Ref sig .tc
  writes_eq : op.writes = {Proc.devRef .tc out}
  bufs_sub : op.bufs ⊆ tcRefs τ sig
  fresh_eq : op.fresh = ∅
  /-- The equation between the contents of the buffer written and of the buffers read. -/
  law : Valuation τ sig Val → Prop
  holds : ∀ V V' : Valuation τ sig Val, (∀ r ∈ reads, V' (Proc.devRef .tc r) = V (Proc.devRef .tc r)) →
    V' (Proc.devRef .tc out) = op.result V (Proc.devRef .tc out) → law V'

namespace Step

variable {Ta Tb Tc Td Ty : BufTy}

/-- A constant. -/
def nullary (y : TRef sig Ty) (v : Ty.Contents Val) : Step τ sig Val where
  op := TRef.nullary y v
  reads := []
  out := y.ref
  writes_eq := nullary_writes ..
  bufs_sub := nullary_bufs_sub ..
  fresh_eq := rfl
  law V := val V y = v
  holds V V' _ h := by rw [val, h, nullary_result', TRef.ofBuf_toBuf]

/-- An operation of one operand. -/
def unary (a : TRef sig Ta) (y : TRef sig Ty) (f : Ta.Contents Val → Ty.Contents Val) : Step τ sig Val where
  op := TRef.unary a y f
  reads := [a.ref]
  out := y.ref
  writes_eq := unary_writes ..
  bufs_sub := unary_bufs_sub ..
  fresh_eq := rfl
  law V := val V y = f (val V a)
  holds V V' hr h := by rw [val, h, unary_result', TRef.ofBuf_toBuf, val, hr _ (by simp)]

/-- An operation of two operands. -/
def binary (a : TRef sig Ta) (b : TRef sig Tb) (y : TRef sig Ty)
    (f : Ta.Contents Val → Tb.Contents Val → Ty.Contents Val) : Step τ sig Val where
  op := TRef.binary a b y f
  reads := [a.ref, b.ref]
  out := y.ref
  writes_eq := binary_writes ..
  bufs_sub := binary_bufs_sub ..
  fresh_eq := rfl
  law V := val V y = f (val V a) (val V b)
  holds V V' hr h := by
    rw [val, h, binary_result', TRef.ofBuf_toBuf, val, val, hr a.ref (by simp), hr b.ref (by simp)]

/-- An operation of three operands. -/
def ternary (a : TRef sig Ta) (b : TRef sig Tb) (c : TRef sig Tc) (y : TRef sig Ty)
    (f : Ta.Contents Val → Tb.Contents Val → Tc.Contents Val → Ty.Contents Val) : Step τ sig Val where
  op := TRef.ternary a b c y f
  reads := [a.ref, b.ref, c.ref]
  out := y.ref
  writes_eq := ternary_writes ..
  bufs_sub := ternary_bufs_sub ..
  fresh_eq := rfl
  law V := val V y = f (val V a) (val V b) (val V c)
  holds V V' hr h := by
    rw [val, h, ternary_result', TRef.ofBuf_toBuf, val, val, val, hr a.ref (by simp), hr b.ref (by simp),
      hr c.ref (by simp)]

/-- An operation of four operands. -/
def quaternary (a : TRef sig Ta) (b : TRef sig Tb) (c : TRef sig Tc) (d : TRef sig Td) (y : TRef sig Ty)
    (f : Ta.Contents Val → Tb.Contents Val → Tc.Contents Val → Td.Contents Val → Ty.Contents Val) :
    Step τ sig Val where
  op := TRef.quaternary a b c d y f
  reads := [a.ref, b.ref, c.ref, d.ref]
  out := y.ref
  writes_eq := quaternary_writes ..
  bufs_sub := quaternary_bufs_sub ..
  fresh_eq := rfl
  law V := val V y = f (val V a) (val V b) (val V c) (val V d)
  holds V V' hr h := by
    rw [val, h, quaternary_result', TRef.ofBuf_toBuf, val, val, val, val, hr a.ref (by simp), hr b.ref (by simp),
      hr c.ref (by simp), hr d.ref (by simp)]

/-- A reshaping commutes with reading the contents at the types of their values. -/
theorem reshape_contents {e : EltTy} {S S' : Shape} {T T' : BufTy} (hT : T = ⟨S, e⟩) (hT' : T' = ⟨S', e⟩)
    (he : T.elt = T'.elt) (hn : S.ShapeCasts S') (hn' : T.shape.ShapeCasts T'.shape) (u : T.Contents Val) :
    cast (congrArg (fun U : BufTy => U.Contents Val) hT') (fun i => he ▸ shapeCast T'.shape u hn' i)
      = shapeCast S' (cast (congrArg (fun U : BufTy => U.Contents Val) hT) u) hn := by
  subst hT hT'
  rfl

/-- The same elements in row-major order under another shape. -/
def reshape {e : EltTy} {S S' : Shape} (x : TRef sig ⟨S, e⟩) (y : TRef sig ⟨S', e⟩) (hn : S.ShapeCasts S') :
    Step τ sig Val where
  op := TRef.reshape x y rfl hn
  reads := [x.ref]
  out := y.ref
  writes_eq := reshape_writes ..
  bufs_sub := reshape_bufs_sub ..
  fresh_eq := rfl
  law V := val V y = shapeCast S' (val V x) hn
  holds V V' hr h := by
    rw [val, h, reshape_result', val, hr x.ref (by simp)]
    exact reshape_contents x.ty_eq y.ty_eq _ hn _ _

/-- The place of a buffer in its table. -/
def rank (r : Ref sig .tc) : Nat := r.idx.val

/-- The steps write buffers of ascending ranks, from `n` up, and each reads only buffers of lower rank than the one
    it writes. -/
def ascending : Nat → List (Step τ sig Val) → Bool
  | _, [] => true
  | n, s :: l =>
    (Nat.ble n (rank s.out) && s.reads.all fun r => Nat.blt (rank r) (rank s.out)) && ascending (rank s.out + 1) l

/-- A step leaves every buffer of another rank as it was. -/
theorem result_of_rank_ne (s : Step τ sig Val) (V : Valuation τ sig Val) {r : Ref sig .tc}
    (h : rank r ≠ rank s.out) : s.op.result V (Proc.devRef .tc r) = V (Proc.devRef .tc r) :=
  s.op.result_of_not_mem V (by
    rw [s.writes_eq, Finset.mem_singleton]
    exact devRef_ne_of_ne fun e => h (e ▸ rfl))

/-- Steps that write from rank `n` up leave every buffer of lower rank as it was. -/
theorem after_of_rank_lt {r : Ref sig .tc} : ∀ (l : List (Step τ sig Val)) (n : Nat) (V : Valuation τ sig Val),
    ascending n l = true → rank r < n →
      after (l.map Step.op) V (Proc.devRef .tc r) = V (Proc.devRef .tc r)
  | [], _, _, _, _ => rfl
  | s :: l, n, V, h, hr => by
    simp only [ascending, Bool.and_eq_true, Nat.ble_eq] at h
    rw [List.map_cons, after_cons, after_of_rank_lt l _ _ h.2 (by omega), result_of_rank_ne s V (by omega)]

/-- At the end of an ascending line of steps, every step's equation holds. -/
theorem law_after : ∀ (l : List (Step τ sig Val)) (n : Nat) (V : Valuation τ sig Val),
    ascending n l = true → l.Forall fun s => s.law (after (l.map Step.op) V)
  | [], _, _, _ => trivial
  | s :: l, n, V, h => by
    simp only [ascending, Bool.and_eq_true, Nat.ble_eq, List.all_eq_true, Nat.blt_eq] at h
    refine (List.forall_cons _ _ _).mpr ⟨s.holds V _ (fun r hr => ?_) ?_, ?_⟩
    · rw [List.map_cons, after_cons, after_of_rank_lt l _ _ h.2 (by have := h.1.2 r hr; omega),
        result_of_rank_ne s V (by have := h.1.2 r hr; omega)]
    · rw [List.map_cons, after_cons, after_of_rank_lt l _ _ h.2 (Nat.lt_succ_self _)]
    · exact law_after l _ _ h.2

end Step

end Cert.Proof
-- ==== Proof.ReferenceSteps.lean ====
module

public import proofs.«01_k».proof.ReferenceIdeal
public import proofs.«01_k».proof.Proof.Steps
public import proofs.«01_k».proof.Proof.Threefry
public import Idealize.ShloMosaic.Lib.Pipeline.Regions

@[expose] public section

/-!
# The reference program as a list of steps

The operations of the printed reference, function by function, with the twenty rounds of the hash written through
one definition of a round and one of the key's entry.
-/

noncomputable section

namespace Cert.Proof

open Idealize.ShloMosaic Idealize.SL.Sem Idealize.ShloMosaic.StableHlo Cert.ReferenceIdeal
open Cert.ReferenceIdeal.Facts₀ Cert.ReferenceIdeal.Facts

variable {F : FTy → Type} [FloatOps F] [Facts₀] [Facts]

/-- A buffer of one word per entry of the batch's array. -/
abbrev Words := TRef sig ⟨S16384x16, .i32⟩
/-- A buffer of one word. -/
abbrev OneWord := TRef sig ⟨S_, .i32⟩

/-- One word, repeated over the array. -/
abbrev spread (x : (⟨S_, .i32⟩ : BufTy).Contents (Elt F)) : (⟨S16384x16, .i32⟩ : BufTy).Contents (Elt F) :=
  broadcastInDim S16384x16 ![] bcast_S_S16384x16 x

/-- The buffers of the main function's own values: the two arguments, the results of the three functions it calls, and
    one for each of its own lines. -/
structure MainBufs where
  arg0 : TRef sig ⟨S16384, .i32⟩
  arg1 : TRef sig ⟨S100x16, .f32⟩
  v0 : TRef sig ⟨S16384x16, .f32⟩
  v12 : TRef sig ⟨S16384x16, .f32⟩
  cst : TRef sig ⟨S_, .f32⟩
  v1 : TRef sig ⟨S16384, .f32⟩
  v2 : TRef sig ⟨S16384x1, .f32⟩
  v3 : TRef sig ⟨S16384x16, .f32⟩
  v4 : TRef sig ⟨S16384x16, .f32⟩
  c : TRef sig ⟨S_, .i32⟩
  c_0 : TRef sig ⟨S_, .i32⟩
  v5 : TRef sig ⟨S_, .i32⟩
  v6 : TRef sig ⟨S_, .i32⟩
  v7 : TRef sig ⟨S1, .i32⟩
  c_1 : TRef sig ⟨S_, .i32⟩
  v8 : TRef sig ⟨S_, .i32⟩
  v9 : TRef sig ⟨S_, .i32⟩
  v10 : TRef sig ⟨S1, .i32⟩
  v11 : TRef sig ⟨S2, .i32⟩
  cst_2 : TRef sig ⟨S_, .f32⟩
  cst_3 : TRef sig ⟨S_, .f32⟩
  cst_4 : TRef sig ⟨S_, .f32⟩
  v13 : TRef sig ⟨S16384x16, .f32⟩
  v14 : TRef sig ⟨S16384x16, .f32⟩
  cst_5 : TRef sig ⟨S_, .f32⟩
  v15 : TRef sig ⟨S16384x16, .f32⟩
  v16 : TRef sig ⟨S16384x16, .f32⟩
  cst_6 : TRef sig ⟨S_, .f32⟩
  v17 : TRef sig ⟨S16384x16, .f32⟩
  v18 : TRef sig ⟨S16384x16, .f32⟩
  v19 : TRef sig ⟨S16384x16, .f32⟩
  v20 : TRef sig ⟨S16384x16, .f32⟩
  v21 : TRef sig ⟨S16384x16, .f32⟩
  v22 : TRef sig ⟨S16384x16, .f32⟩
  v23 : TRef sig ⟨S16384x16, .f32⟩
  v24 : TRef sig ⟨S16384x16, .f32⟩

/-- The printed program's. -/
abbrev mainBufs : MainBufs where
  arg0 := .of main_arg0
  arg1 := .of main_arg1
  v0 := .of main_v0
  v12 := .of main_v12
  cst := .of main_cst
  v1 := .of main_v1
  v2 := .of main_v2
  v3 := .of main_v3
  v4 := .of main_v4
  c := .of main_c
  c_0 := .of main_c_0
  v5 := .of main_v5
  v6 := .of main_v6
  v7 := .of main_v7
  c_1 := .of main_c_1
  v8 := .of main_v8
  v9 := .of main_v9
  v10 := .of main_v10
  v11 := .of main_v11
  cst_2 := .of main_cst_2
  cst_3 := .of main_cst_3
  cst_4 := .of main_cst_4
  v13 := .of main_v13
  v14 := .of main_v14
  cst_5 := .of main_cst_5
  v15 := .of main_v15
  v16 := .of main_v16
  cst_6 := .of main_cst_6
  v17 := .of main_v17
  v18 := .of main_v18
  v19 := .of main_v19
  v20 := .of main_v20
  v21 := .of main_v21
  v22 := .of main_v22
  v23 := .of main_v23
  v24 := .of main_v24

/-- Taking, for each state, the table's row of that number (an index out of range gives the row of NaNs). -/
def takeSteps (arg0 : TRef sig ⟨S100x16, .f32⟩) (arg1 : TRef sig ⟨S16384, .i32⟩) (φ : fn_take.Bufs) :
    List (Step τ sig (Elt F)) := [
    .nullary φ.c (constantI S_ 32 0#32),
    .unary φ.c φ.v0 (broadcastInDim S16384 ![] bcast_S_S16384),
    .binary arg1 φ.v0 φ.v1 (cmpi .slt),
    .nullary φ.c_0 (constantI S_ 32 100#32),
    .unary φ.c_0 φ.v2 (broadcastInDim S16384 ![] bcast_S_S16384),
    .binary arg1 φ.v2 φ.v3 addi,
    .ternary φ.v1 φ.v3 arg1 φ.call0.v0 select,
    .unary φ.call0.v0 φ.v5 (broadcastInDim S16384x1 ![0] bcast_S16384_S16384x1_0),
    .nullary φ.c_1 (constantI S1 32 99#32),
    .nullary φ.c_2 (constantI S_ 32 0#32),
    .unary φ.c_2 φ.v6 (broadcastInDim S16384x1 ![] bcast_S_S16384x1),
    .binary φ.v5 φ.v6 φ.v7 (cmpi .sge),
    .unary φ.c_1 φ.v8 (broadcastInDim S1x1 ![1] bcast_S1_S1x1_1),
    .unary φ.v8 φ.v9 (broadcastInDim S16384x1 ![0, 1] bcast_S1x1_S16384x1_0_1),
    .binary φ.v5 φ.v9 φ.v10 (cmpi .sle),
    .binary φ.v7 φ.v10 φ.v11 andi,
    .nullary φ.c_3 (constantI S_ 1 1#1),
    .binary φ.v11 φ.c_3 φ.v12 (fun x v => Host.reduce IntOp.andi x v reducesTo_S16384x1_S16384_d1 h_S_),
    .binary arg0 φ.v5 φ.v13 (fun x i => Host.gather gather_S100x16_S16384x1_S16384x16_1_0_n_n_0_1_116 x i),
    .unary φ.v12 φ.v14 (broadcastInDim S16384x16 ![0] bcast_S16384_S16384x16_0),
    .nullary φ.cst (constant S_ .f32 0x7FC00000#32),
    .unary φ.cst φ.v15 (broadcastInDim S16384x16 ![] bcast_S_S16384x16),
    .ternary φ.v14 φ.v13 φ.v15 φ.v16 select]

/-- Each row divided by its sum. -/
def weightSteps (φ : MainBufs) : List (Step τ sig (Elt F)) := [
    .nullary φ.cst (constant S_ .f32 0x00000000#32),
    .binary φ.v0 φ.cst φ.v1 (fun x v => Host.reduceAdd x v reducesTo_S16384x16_S16384_d1 h_S_),
    .unary φ.v1 φ.v2 (broadcastInDim S16384x1 ![0] bcast_S16384_S16384x1_0),
    .unary φ.v2 φ.v3 (broadcastInDim S16384x16 ![0, 1] bcast_S16384x1_S16384x16_0_1),
    .binary φ.v0 φ.v3 φ.v4 Host.divf]

/-- The two words of the key, and the ends of the interval. -/
def keySteps (φ : MainBufs) : List (Step τ sig (Elt F)) := [
    .nullary φ.c (constantI S_ 32 42#32),
    .nullary φ.c_0 (constantI S_ 32 32#32),
    .binary φ.c φ.c_0 φ.v5 Host.shrui,
    .unary φ.v5 φ.v6 id,
    .unary φ.v6 φ.v7 (broadcastInDim S1 ![] bcast_S_S1),
    .nullary φ.c_1 (constantI S_ 32 4294967295#32),
    .binary φ.c φ.c_1 φ.v8 andi,
    .unary φ.v8 φ.v9 id,
    .unary φ.v9 φ.v10 (broadcastInDim S1 ![] bcast_S_S1),
    .binary φ.v7 φ.v10 φ.v11 (fun a b => concatenate S2 0 [⟨S1, a⟩, ⟨S1, b⟩] concatenates_S1_S1_S2_d0),
    .nullary φ.cst_2 (constant S_ .f32 0x00000000#32),
    .nullary φ.cst_3 (constant S_ .f32 0x3F800000#32)]

/-- The key's words and the counters: the number of each entry of the array in row-major order, as two words. -/
def counterSteps (arg0 : TRef sig ⟨S2, .i32⟩) (arg1 arg2 : TRef sig ⟨S_, .f32⟩) (φ : fn_uniform.Bufs) :
    List (Step τ sig (Elt F)) := [
    .unary arg1 φ.v0 id,
    .unary arg2 φ.v1 id,
    .unary φ.v0 φ.v2 (broadcastInDim S1x1 ![] bcast_S_S1x1),
    .unary φ.v1 φ.v3 (broadcastInDim S1x1 ![] bcast_S_S1x1),
    .unary arg0 φ.v4 (extractStridedSlice S1 ![0] · slices_S2_S1_0),
    .reshape φ.v4 φ.v5 shapeCasts_S1_S_,
    .unary arg0 φ.v6 (extractStridedSlice S1 ![1] · slices_S2_S1_1),
    .reshape φ.v6 φ.v7 shapeCasts_S1_S_,
    .nullary φ.v8 (iotaInDim S16384x16 64 0),
    .nullary φ.v9 (iotaInDim S16384x16 64 1),
    .nullary φ.c (constantI S_ 64 16#64),
    .unary φ.c φ.v10 (broadcastInDim S16384x16 ![] bcast_S_S16384x16),
    .binary φ.v10 φ.v8 φ.v11 muli,
    .nullary φ.c_0 (constantI S_ 64 1#64),
    .unary φ.c_0 φ.v12 (broadcastInDim S16384x16 ![] bcast_S_S16384x16),
    .binary φ.v12 φ.v9 φ.v13 muli,
    .binary φ.v11 φ.v13 φ.v14 addi,
    .nullary φ.c_1 (constantI S_ 64 32#64),
    .unary φ.c_1 φ.v15 (broadcastInDim S16384x16 ![] bcast_S_S16384x16),
    .binary φ.v14 φ.v15 φ.v16 Host.shrui,
    .unary φ.v14 φ.v17 (trunci 32 · natLt_32_64),
    .unary φ.v16 φ.v18 (trunci 32 · natLt_32_64)]

/-- The buffers of one round's nine lines, in order. -/
structure RoundBufs where
  s : Words
  c : OneWord
  w : Words
  sh : Words
  c' : OneWord
  w' : Words
  sh' : Words
  o : Words
  out : Words

/-- One round of the hash on the pair `(a, b)`: their sum goes to `R.s`, the second word to `R.out`. -/
def roundSteps (l r : Word) (a b : Words) (R : RoundBufs) : List (Step τ sig (Elt F)) := [
    .binary a b R.s addi,
    .nullary R.c (constantI S_ 32 l),
    .unary R.c R.w spread,
    .binary b R.w R.sh Host.shli,
    .nullary R.c' (constantI S_ 32 r),
    .unary R.c' R.w' spread,
    .binary b R.w' R.sh' Host.shrui,
    .binary R.sh R.sh' R.o ori,
    .binary R.s R.o R.out xori]

/-- The four rounds of an odd group, from the pair `(a, b)`. -/
def oddSteps (a b : Words) (R₁ R₂ R₃ R₄ : RoundBufs) : List (Step τ sig (Elt F)) :=
  roundSteps 13#32 19#32 a b R₁ ++ (roundSteps 15#32 17#32 R₁.s R₁.out R₂ ++
    (roundSteps 26#32 6#32 R₂.s R₂.out R₃ ++ roundSteps 6#32 26#32 R₃.s R₃.out R₄))

/-- The four rounds of an even group, from the pair `(a, b)`. -/
def evenSteps (a b : Words) (R₁ R₂ R₃ R₄ : RoundBufs) : List (Step τ sig (Elt F)) :=
  roundSteps 17#32 15#32 a b R₁ ++ (roundSteps 29#32 3#32 R₁.s R₁.out R₂ ++
    (roundSteps 16#32 16#32 R₂.s R₂.out R₃ ++ roundSteps 24#32 8#32 R₃.s R₃.out R₄))

/-- The key's words `k`, `k'` and the group's number `n` added to the pair `(a, b)`. -/
def injectSteps (n : Word) (k k' : OneWord) (a b w out w' t : Words) (c : OneWord) (w'' out' : Words) :
    List (Step τ sig (Elt F)) := [
    .unary k w spread,
    .binary a w out addi,
    .unary k' w' spread,
    .binary b w' t addi,
    .nullary c (constantI S_ 32 n),
    .unary c w'' spread,
    .binary t w'' out' addi]

/-- The third word of the key, and the key's entry before the first round. -/
def startSteps (arg0 arg1 : OneWord) (arg2 arg3 : Words) (φ : fn_threefry2x32.Bufs) : List (Step τ sig (Elt F)) := [
    .binary arg0 arg1 φ.v0 xori,
    .nullary φ.c (constantI S_ 32 466688986#32),
    .binary φ.v0 φ.c φ.v1 xori,
    .unary arg0 φ.v2 spread,
    .binary arg2 φ.v2 φ.v3 addi,
    .unary arg1 φ.v4 spread,
    .binary arg3 φ.v4 φ.v5 addi]

/-- The first group of four rounds and the key's entry after it. -/
def firstGroup (arg0 arg1 : OneWord) (φ : fn_threefry2x32.Bufs) : List (Step τ sig (Elt F)) :=
  oddSteps φ.v3 φ.v5
    ⟨φ.v6, φ.c_0, φ.v7, φ.v8, φ.c_1, φ.v9, φ.v10, φ.v11, φ.v12⟩
    ⟨φ.v13, φ.c_2, φ.v14, φ.v15, φ.c_3, φ.v16, φ.v17, φ.v18, φ.v19⟩
    ⟨φ.v20, φ.c_4, φ.v21, φ.v22, φ.c_5, φ.v23, φ.v24, φ.v25, φ.v26⟩
    ⟨φ.v27, φ.c_6, φ.v28, φ.v29, φ.c_7, φ.v30, φ.v31, φ.v32, φ.v33⟩ ++
  injectSteps 1#32 arg1 φ.v1 φ.v27 φ.v33 φ.v34 φ.v35 φ.v36 φ.v37 φ.c_8 φ.v38 φ.v39

/-- The second group of four rounds and the key's entry after it. -/
def secondGroup (arg0 arg1 : OneWord) (φ : fn_threefry2x32.Bufs) : List (Step τ sig (Elt F)) :=
  evenSteps φ.v35 φ.v39
    ⟨φ.v40, φ.c_9, φ.v41, φ.v42, φ.c_10, φ.v43, φ.v44, φ.v45, φ.v46⟩
    ⟨φ.v47, φ.c_11, φ.v48, φ.v49, φ.c_12, φ.v50, φ.v51, φ.v52, φ.v53⟩
    ⟨φ.v54, φ.c_13, φ.v55, φ.v56, φ.c_14, φ.v57, φ.v58, φ.v59, φ.v60⟩
    ⟨φ.v61, φ.c_15, φ.v62, φ.v63, φ.c_16, φ.v64, φ.v65, φ.v66, φ.v67⟩ ++
  injectSteps 2#32 φ.v1 arg0 φ.v61 φ.v67 φ.v68 φ.v69 φ.v70 φ.v71 φ.c_17 φ.v72 φ.v73

/-- The third group of four rounds and the key's entry after it. -/
def thirdGroup (arg0 arg1 : OneWord) (φ : fn_threefry2x32.Bufs) : List (Step τ sig (Elt F)) :=
  oddSteps φ.v69 φ.v73
    ⟨φ.v74, φ.c_18, φ.v75, φ.v76, φ.c_19, φ.v77, φ.v78, φ.v79, φ.v80⟩
    ⟨φ.v81, φ.c_20, φ.v82, φ.v83, φ.c_21, φ.v84, φ.v85, φ.v86, φ.v87⟩
    ⟨φ.v88, φ.c_22, φ.v89, φ.v90, φ.c_23, φ.v91, φ.v92, φ.v93, φ.v94⟩
    ⟨φ.v95, φ.c_24, φ.v96, φ.v97, φ.c_25, φ.v98, φ.v99, φ.v100, φ.v101⟩ ++
  injectSteps 3#32 arg0 arg1 φ.v95 φ.v101 φ.v102 φ.v103 φ.v104 φ.v105 φ.c_26 φ.v106 φ.v107

/-- The fourth group of four rounds and the key's entry after it. -/
def fourthGroup (arg0 arg1 : OneWord) (φ : fn_threefry2x32.Bufs) : List (Step τ sig (Elt F)) :=
  evenSteps φ.v103 φ.v107
    ⟨φ.v108, φ.c_27, φ.v109, φ.v110, φ.c_28, φ.v111, φ.v112, φ.v113, φ.v114⟩
    ⟨φ.v115, φ.c_29, φ.v116, φ.v117, φ.c_30, φ.v118, φ.v119, φ.v120, φ.v121⟩
    ⟨φ.v122, φ.c_31, φ.v123, φ.v124, φ.c_32, φ.v125, φ.v126, φ.v127, φ.v128⟩
    ⟨φ.v129, φ.c_33, φ.v130, φ.v131, φ.c_34, φ.v132, φ.v133, φ.v134, φ.v135⟩ ++
  injectSteps 4#32 arg1 φ.v1 φ.v129 φ.v135 φ.v136 φ.v137 φ.v138 φ.v139 φ.c_35 φ.v140 φ.v141

/-- The fifth group of four rounds and the key's entry after it. -/
def fifthGroup (arg0 arg1 : OneWord) (φ : fn_threefry2x32.Bufs) : List (Step τ sig (Elt F)) :=
  oddSteps φ.v137 φ.v141
    ⟨φ.v142, φ.c_36, φ.v143, φ.v144, φ.c_37, φ.v145, φ.v146, φ.v147, φ.v148⟩
    ⟨φ.v149, φ.c_38, φ.v150, φ.v151, φ.c_39, φ.v152, φ.v153, φ.v154, φ.v155⟩
    ⟨φ.v156, φ.c_40, φ.v157, φ.v158, φ.c_41, φ.v159, φ.v160, φ.v161, φ.v162⟩
    ⟨φ.v163, φ.c_42, φ.v164, φ.v165, φ.c_43, φ.v166, φ.v167, φ.v168, φ.v169⟩ ++
  injectSteps 5#32 φ.v1 arg0 φ.v163 φ.v169 φ.v170 φ.v171 φ.v172 φ.v173 φ.c_44 φ.v174 φ.v175

/-- The number read off the hash's words: twenty-three bits as the fraction of a float in `[1, 2)`, less one, stretched
    to the interval and kept above its lower end. -/
def floatSteps (arg1 arg2 : TRef sig ⟨S_, .f32⟩) (φ : fn_uniform.Bufs) : List (Step τ sig (Elt F)) := [
    .binary φ.call0.v171 φ.call0.v175 φ.v20 xori,
    .nullary φ.c_2 (constantI S_ 32 9#32),
    .unary φ.c_2 φ.v21 (broadcastInDim S16384x16 ![] bcast_S_S16384x16),
    .binary φ.v20 φ.v21 φ.v22 Host.shrui,
    .nullary φ.c_3 (constantI S_ 32 1065353216#32),
    .unary φ.c_3 φ.v23 (broadcastInDim S16384x16 ![] bcast_S_S16384x16),
    .binary φ.v22 φ.v23 φ.v24 ori,
    .unary φ.v24 φ.v25 (bitcastToFloat .f32),
    .nullary φ.cst (constant S_ .f32 0x3F800000#32),
    .unary φ.cst φ.v26 (broadcastInDim S16384x16 ![] bcast_S_S16384x16),
    .binary φ.v25 φ.v26 φ.v27 subf,
    .binary φ.v3 φ.v2 φ.v28 subf,
    .unary φ.v28 φ.v29 (broadcastInDim S16384x16 ![0, 1] bcast_S1x1_S16384x16_0_1),
    .binary φ.v27 φ.v29 φ.v30 mulf,
    .unary φ.v2 φ.v31 (broadcastInDim S16384x16 ![0, 1] bcast_S1x1_S16384x16_0_1),
    .binary φ.v30 φ.v31 φ.v32 addf,
    .unary φ.v2 φ.v33 (broadcastInDim S16384x16 ![0, 1] bcast_S1x1_S16384x16_0_1),
    .binary φ.v33 φ.v32 φ.v34 maximumf]

/-- The Gumbel noise of each number, plus the logarithm of the weight. -/
def gumbelSteps (φ : MainBufs) : List (Step τ sig (Elt F)) := [
    .nullary φ.cst_4 (constant S_ .f32 0x3F800000#32),
    .unary φ.cst_4 φ.v13 (broadcastInDim S16384x16 ![] bcast_S_S16384x16),
    .binary φ.v12 φ.v13 φ.v14 mulf,
    .nullary φ.cst_5 (constant S_ .f32 0x00800000#32),
    .unary φ.cst_5 φ.v15 (broadcastInDim S16384x16 ![] bcast_S_S16384x16),
    .binary φ.v14 φ.v15 φ.v16 addf,
    .nullary φ.cst_6 (constant S_ .f32 0x00800000#32),
    .unary φ.cst_6 φ.v17 (broadcastInDim S16384x16 ![] bcast_S_S16384x16),
    .binary φ.v17 φ.v16 φ.v18 maximumf,
    .unary φ.v18 φ.v19 Host.log,
    .unary φ.v19 φ.v20 Host.negf,
    .unary φ.v20 φ.v21 Host.log,
    .unary φ.v21 φ.v22 Host.negf,
    .unary φ.v4 φ.v23 Host.log,
    .binary φ.v22 φ.v23 φ.v24 addf]

/-- The first index of each row's greatest element. -/
def argmaxSteps (arg0 : TRef sig ⟨S16384x16, .f32⟩) (φ : fn_argmax.Bufs) : List (Step τ sig (Elt F)) := [
    .nullary φ.v0 (iotaInDim S16384x16 32 1),
    .nullary φ.cst (constant S_ .f32 0xFF800000#32),
    .nullary φ.c (constantI S_ 32 0#32),
    .quaternary arg0 φ.v0 φ.cst φ.c φ.v1_0 (fun x y u v j => (Host.argReduce reducer_argmax_f32_i32 x y u v reducesTo_S16384x16_S16384_d1 h_S_ j).1),
    .quaternary arg0 φ.v0 φ.cst φ.c φ.v1_1 (fun x y u v j => (Host.argReduce reducer_argmax_f32_i32 x y u v reducesTo_S16384x16_S16384_d1 h_S_ j).2)]

/-- The whole hash. -/
def hashSteps (arg0 arg1 : OneWord) (arg2 arg3 : Words) (φ : fn_threefry2x32.Bufs) : List (Step τ sig (Elt F)) :=
    startSteps arg0 arg1 arg2 arg3 φ ++ (firstGroup arg0 arg1 φ ++ (secondGroup arg0 arg1 φ ++ (thirdGroup arg0 arg1 φ ++
    (fourthGroup arg0 arg1 φ ++ fifthGroup arg0 arg1 φ))))

/-- The whole reference. -/
def steps : List (Step τ sig (Elt F)) :=
    takeSteps mainBufs.arg1 mainBufs.arg0 main_call0 ++ (weightSteps mainBufs ++ (keySteps mainBufs ++
    (counterSteps mainBufs.v11 mainBufs.cst_2 mainBufs.cst_3 main_call1 ++
    (hashSteps main_call1.v5 main_call1.v7 main_call1.v18 main_call1.v17 main_call1.call0 ++
    (floatSteps mainBufs.cst_2 mainBufs.cst_3 main_call1 ++ (gumbelSteps mainBufs ++
    argmaxSteps mainBufs.v24 main_call2))))))

/-- The printed reference is that line of operations. -/
theorem main_eq (c : Dev nD) : main (F := F) c = seq (steps.map Step.op) := by
  chain_rfl

/-- Each of its operations writes a buffer of higher rank than those before it, and reads only lower ones. -/
theorem ascending_steps : Step.ascending 2 (steps (F := F)) = true := by
  chain_rfl

end Cert.Proof

end
-- ==== Proof.ReferenceRun.lean ====
/- The run of the reference: its buffers end satisfying all the equations of its steps, its arguments as they were, every counter at zero. -/
module

public import proofs.«01_k».proof.Proof.ReferenceSteps
public import Idealize.ShloMosaic.Lib.Quiescent

@[expose] public section

noncomputable section

namespace Cert.Proof

open Idealize.ShloMosaic Idealize.SL.Sem Idealize.ShloMosaic.StableHlo Cert.ReferenceIdeal

variable {F : FTy → Type} [FloatOps F] [Facts₀] [Facts]

/-- From any memory the reference runs to contents at which every step's equation holds and which agree with the
    launch's at the two arguments. -/
theorem reference_run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      ∃ V : Valuation τ sig (Elt F), ((steps (F := F)).Forall fun s => s.law V)
        ∧ (∀ b : Ref sig .tc, r.2.mem ((c.tc : Thread nD τ).loc b) = V (Proc.devRef .tc b))
        ∧ V (Proc.devRef .tc main_arg0) = m ((c.tc : Thread nD τ).loc main_arg0)
        ∧ V (Proc.devRef .tc main_arg1) = m ((c.tc : Thread nD τ).loc main_arg1) := by
  refine (θ_run _ _ _).mono (fun r h c => ?_)
    (run_hlo (defs (F := F)) (main (F := F)) main_eq (by decide) (by decide)
      (List.forall_iff_forall_mem.mpr fun op hop => ?_) (fun op hop => ?_) m ρ)
  · exact ⟨_, Step.law_after _ 2 (launchContents m c) ascending_steps, fun b => h c b,
      Step.after_of_rank_lt _ 2 _ ascending_steps (by decide), Step.after_of_rank_lt _ 2 _ ascending_steps (by decide)⟩
  · obtain ⟨s, -, rfl⟩ := List.mem_map.mp hop
    exact s.bufs_sub
  · obtain ⟨s, -, rfl⟩ := List.mem_map.mp hop
    exact s.fresh_eq

/-- The reference leaves its arguments as they were and every counter at zero. -/
theorem reference_frame (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  refine (θ_run _ _ _).mono (fun r h => ⟨fun c => ?_, sem_eq_zero_of_no_sems (by decide) r.2⟩) (reference_run m ρ)
  obtain ⟨V, -, hV, h0, h1⟩ := h c
  exact ⟨(hV _).trans h0, (hV _).trans h1⟩

end Cert.Proof

end
-- ==== Proof.ReferenceHash.lean ====
/- What the reference's hash leaves in its buffers, element by element: Threefry's two words of the key's words and the counter's. -/
module

public import proofs.«01_k».proof.Proof.ReferenceSteps
public import Idealize.ShloMosaic.Lib.Pointwise.Reduce
public import Idealize.ShloMosaic.Lib.KernelVsHost

@[expose] public section

noncomputable section

namespace Cert.Proof

open Idealize.ShloMosaic Idealize.SL.Sem Idealize.ShloMosaic.StableHlo Cert.ReferenceIdeal
open Cert.ReferenceIdeal.Facts₀ Cert.ReferenceIdeal.Facts

variable {F : FTy → Type} [FloatOps F] [Facts₀] [Facts] {V : Valuation τ sig (Elt F)}

/-- The pair of words two buffers hold at one entry. -/
def pair (V : Valuation τ sig (Elt F)) (a b : Words) (j : S16384x16.Idx) : Word × Word := (val V a j, val V b j)

/-- What a buffer of one word holds. -/
def word (V : Valuation τ sig (Elt F)) (k : OneWord) : Word := val V k default

/-- A word repeated over the array is that word at every entry. -/
theorem spread_at (x : (⟨S_, .i32⟩ : BufTy).Contents (Elt F)) (j : S16384x16.Idx) : spread (F := F) x j = x default :=
  congrArg x (Subsingleton.elim _ _)

/-- A left shift by a word below the width, at one entry. -/
theorem hostShl_at (x y : IVec S16384x16 32) (j : S16384x16.Idx) {n : Word} (hy : y j = n) (h : n.toNat < 32) :
    Host.shli x y j = x j <<< n := by
  rw [hostShli_eq_shli]
  simp only [shli, IntOp.shli, hy, h, if_true]

/-- A right shift by a word below the width, at one entry. -/
theorem hostShr_at (x y : IVec S16384x16 32) (j : S16384x16.Idx) {n : Word} (hy : y j = n) (h : n.toNat < 32) :
    Host.shrui x y j = x j >>> n := by
  rw [hostShrui_eq_shrui]
  simp only [shrui, IntOp.shrui, hy, h, if_true]

/-- A round's law: the two buffers it ends with hold the mixed pair. -/
theorem round_law {l r : Word} {a b : Words} {R : RoundBufs} (hl : l.toNat < 32) (hr : r.toNat < 32)
    (h : (roundSteps (F := F) l r a b R).Forall fun s => s.law V) (j : S16384x16.Idx) :
    pair V R.s R.out j = mix l r (pair V a b j) := by
  obtain ⟨h1, h2, h3, h4, h5, h6, h7, h8, h9⟩ := h
  simp only [Step.law, Step.binary, Step.unary, Step.nullary] at h1 h2 h3 h4 h5 h6 h7 h8 h9
  have e3 : val V R.w j = l := by rw [h3, spread_at, h2]; rfl
  have e6 : val V R.w' j = r := by rw [h6, spread_at, h5]; rfl
  have e4 := (congrFun h4 j).trans (hostShl_at _ _ j e3 hl)
  have e7 := (congrFun h7 j).trans (hostShr_at _ _ j e6 hr)
  have e1 : val V R.s j = val V a j + val V b j := congrFun h1 j
  have e8 : val V R.o j = val V R.sh j ||| val V R.sh' j := congrFun h8 j
  have e9 : val V R.out j = val V R.s j ^^^ val V R.o j := congrFun h9 j
  rw [pair, e9, e8, e7, e4, e1]
  rfl

/-- An odd group's law. -/
theorem odd_law {a b : Words} {R₁ R₂ R₃ R₄ : RoundBufs}
    (h : (oddSteps (F := F) a b R₁ R₂ R₃ R₄).Forall fun s => s.law V) (j : S16384x16.Idx) :
    pair V R₄.s R₄.out j = mixOdd (pair V a b j) := by
  simp only [oddSteps, List.forall_append] at h
  obtain ⟨h1, h2, h3, h4⟩ := h
  rw [round_law (by decide) (by decide) h4, round_law (by decide) (by decide) h3,
    round_law (by decide) (by decide) h2, round_law (by decide) (by decide) h1, mixOdd]

/-- An even group's law. -/
theorem even_law {a b : Words} {R₁ R₂ R₃ R₄ : RoundBufs}
    (h : (evenSteps (F := F) a b R₁ R₂ R₃ R₄).Forall fun s => s.law V) (j : S16384x16.Idx) :
    pair V R₄.s R₄.out j = mixEven (pair V a b j) := by
  simp only [evenSteps, List.forall_append] at h
  obtain ⟨h1, h2, h3, h4⟩ := h
  rw [round_law (by decide) (by decide) h4, round_law (by decide) (by decide) h3,
    round_law (by decide) (by decide) h2, round_law (by decide) (by decide) h1, mixEven]

/-- The law of the key's entry after a group. -/
theorem inject_law {n : Word} {k k' : OneWord} {a b w out w' t : Words} {c : OneWord} {w'' out' : Words}
    (h : (injectSteps (F := F) n k k' a b w out w' t c w'' out').Forall fun s => s.law V) (j : S16384x16.Idx) :
    pair V out out' j = inject (word V k) (word V k') n (pair V a b j) := by
  obtain ⟨h1, h2, h3, h4, h5, h6, h7⟩ := h
  simp only [Step.law, Step.binary, Step.unary, Step.nullary] at h1 h2 h3 h4 h5 h6 h7
  have e1 : val V w j = word V k := by rw [h1, spread_at]; rfl
  have e3 : val V w' j = word V k' := by rw [h3, spread_at]; rfl
  have e6 : val V w'' j = n := by rw [h6, spread_at, h5]; rfl
  have e2 : val V out j = val V a j + val V w j := congrFun h2 j
  have e4 : val V t j = val V b j + val V w' j := congrFun h4 j
  have e7 : val V out' j = val V t j + val V w'' j := congrFun h7 j
  rw [pair, e7, e6, e4, e3, e2, e1]
  rfl

/-- The law of the hash's start: the third key word, and the pair with the first two added. -/
theorem start_law {arg0 arg1 : OneWord} {arg2 arg3 : Words} {φ : fn_threefry2x32.Bufs}
    (h : (startSteps (F := F) arg0 arg1 arg2 arg3 φ).Forall fun s => s.law V) (j : S16384x16.Idx) :
    word V φ.v1 = word V arg0 ^^^ word V arg1 ^^^ 466688986#32 ∧
      pair V φ.v3 φ.v5 j = ((pair V arg2 arg3 j).1 + word V arg0, (pair V arg2 arg3 j).2 + word V arg1) := by
  obtain ⟨h1, h2, h3, h4, h5, h6, h7⟩ := h
  simp only [Step.law, Step.binary, Step.unary, Step.nullary] at h1 h2 h3 h4 h5 h6 h7
  have e4 : val V φ.v2 j = word V arg0 := by rw [h4, spread_at]; rfl
  have e6 : val V φ.v4 j = word V arg1 := by rw [h6, spread_at]; rfl
  have e5 : val V φ.v3 j = val V arg2 j + val V φ.v2 j := congrFun h5 j
  have e7 : val V φ.v5 j = val V arg3 j + val V φ.v4 j := congrFun h7 j
  refine ⟨by rw [word, h3, h2, h1]; rfl, ?_⟩
  rw [pair, e7, e6, e5, e4]
  rfl

/-- The hash's law: at each entry its two results hold Threefry's pair. -/
theorem hash_law {arg0 arg1 : OneWord} {arg2 arg3 : Words} {φ : fn_threefry2x32.Bufs}
    (h : (hashSteps (F := F) arg0 arg1 arg2 arg3 φ).Forall fun s => s.law V) (j : S16384x16.Idx) :
    pair V φ.v171 φ.v175 j = threefry (word V arg0) (word V arg1) (pair V arg2 arg3 j) := by
  simp only [hashSteps, firstGroup, secondGroup, thirdGroup, fourthGroup, fifthGroup, List.forall_append] at h
  obtain ⟨h0, ⟨h1, i1⟩, ⟨h2, i2⟩, ⟨h3, i3⟩, ⟨h4, i4⟩, h5, i5⟩ := h
  obtain ⟨hq, h0⟩ := start_law h0 j
  rw [inject_law i5, odd_law h5, inject_law i4, even_law h4, inject_law i3, odd_law h3, inject_law i2, even_law h2,
    inject_law i1, odd_law h1, h0, hq]
  rfl

end Cert.Proof

end
-- ==== Proof.ReferenceCounters.lean ====
/- What the reference hashes: the key's two words, and the number of each entry of the array as a counter of two words. -/
module

public import proofs.«01_k».proof.Proof.ReferenceHash
public import Idealize.ShloMosaic.Lib.Pipeline.Value

@[expose] public section

noncomputable section

namespace Cert.Proof

open Idealize.ShloMosaic Idealize.SL.Sem Idealize.ShloMosaic.StableHlo Cert.ReferenceIdeal
open Cert.ReferenceIdeal.Facts₀ Cert.ReferenceIdeal.Facts

variable {F : FTy → Type} [FloatOps F] [Facts₀] [Facts] {V : Valuation τ sig (Elt F)}

/-- The key's two words, as the main function joins them: 0 and 42. -/
theorem key_law {φ : MainBufs} (h : (keySteps (F := F) φ).Forall fun s => s.law V) :
    val V φ.v11 (ix1 0) = 0#32 ∧ val V φ.v11 (ix1 1) = 42#32 := by
  obtain ⟨h1, h2, h3, h4, h5, h6, h7, h8, h9, h10, -, -⟩ := h
  simp only [Step.law, Step.binary, Step.unary, Step.nullary, id] at h1 h2 h3 h4 h5 h6 h7 h8 h9 h10
  have e7 : val V φ.v7 (ix1 0) = 0#32 := by
    rw [h5, h4, h3, h2, h1]
    show IntOp.shrui .host 42#32 32#32 = 0#32
    decide
  have e10 : val V φ.v10 (ix1 0) = 42#32 := by
    rw [h9, h8, h7, h6, h1]
    show 42#32 &&& 4294967295#32 = 42#32
    decide
  constructor
  · rw [h10, ← e7]
    exact concatenate_pair_apply_left (t := S2) (s₁ := S1) (s₂ := S1) 0 _ _ _ (ix1 0) rfl (ix1 0) fun b => by
      match b with
      | ⟨0, _⟩ => rfl
  · rw [h10, ← e10]
    exact concatenate_pair_apply_right (t := S2) (s₁ := S1) (s₂ := S1) 0 _ _ _ (ix1 1) rfl rfl (ix1 0) (fun b hb => by
      match b with
      | ⟨0, _⟩ => exact absurd rfl hb) rfl

/-- A buffer of one word holding the element of a two-element array at a given place. -/
theorem word_of_slice {x : (⟨S2, .i32⟩ : BufTy).Contents (Elt F)} {n : Fin 2} {off : Fin 1 → Nat} (hoff : off = ![n.val])
    (hs : S2.Slices off S1) {k : OneWord}
    (h : val V k = shapeCast S_ (extractStridedSlice S1 off x hs) shapeCasts_S1_S_) : word V k = x (ix1 n) := by
  subst hoff
  rw [word, h]
  refine congrArg x (funext fun a => Fin.ext ?_)
  match a with
  | ⟨0, _⟩ =>
    have := (Shape.reshapeEquiv shapeCasts_S1_S_ (default : S_.Idx) 0).isLt
    show n.val + (Shape.reshapeEquiv shapeCasts_S1_S_ (default : S_.Idx) 0).val = n.val
    have h1 : S1.size 0 = 1 := rfl
    omega

/-- The words of the key as the hash takes them. -/
theorem keyWords_law {arg0 : TRef sig ⟨S2, .i32⟩} {arg1 arg2 : TRef sig ⟨S_, .f32⟩} {φ : fn_uniform.Bufs}
    (h : (counterSteps (F := F) arg0 arg1 arg2 φ).Forall fun s => s.law V) :
    word V φ.v5 = val V arg0 (ix1 0) ∧ word V φ.v7 = val V arg0 (ix1 1) := by
  obtain ⟨-, -, -, -, h5, h6, h7, h8, -⟩ := h
  simp only [Step.law, Step.unary, Step.reshape] at h5 h6 h7 h8
  rw [h5] at h6
  rw [h7] at h8
  exact ⟨word_of_slice (n := 0) rfl _ h6, word_of_slice (n := 1) rfl _ h8⟩

/-- The counter's arithmetic: 64-bit, with no carry past the lower word. -/
theorem counter_arith (b a : Nat) (hb : b < 16384) (ha : a < 16) :
    (16#64 * BitVec.ofNat 64 b + 1#64 * BitVec.ofNat 64 a).setWidth 32 = BitVec.ofNat 32 (16 * b + a)
      ∧ ((16#64 * BitVec.ofNat 64 b + 1#64 * BitVec.ofNat 64 a) >>> 32#64).setWidth 32 = 0#32 := by
  have e : 16#64 * BitVec.ofNat 64 b + 1#64 * BitVec.ofNat 64 a = BitVec.ofNat 64 (16 * b + a) := by
    apply BitVec.eq_of_toNat_eq
    simp [BitVec.toNat_mul, BitVec.toNat_add]
  rw [e]
  have hn : 16 * b + a < 2 ^ 18 := by omega
  constructor <;> apply BitVec.eq_of_toNat_eq
  · simp only [BitVec.toNat_setWidth, BitVec.toNat_ofNat]
    omega
  · simp only [BitVec.toNat_setWidth, BitVec.toNat_ofNat, BitVec.ushiftRight_eq', BitVec.toNat_ushiftRight,
      Nat.shiftRight_eq_div_pow]
    norm_num
    omega

/-- The counter of an entry: its number in row-major order. -/
theorem counter_law {arg0 : TRef sig ⟨S2, .i32⟩} {arg1 arg2 : TRef sig ⟨S_, .f32⟩} {φ : fn_uniform.Bufs}
    (h : (counterSteps (F := F) arg0 arg1 arg2 φ).Forall fun s => s.law V) (b : Fin 16384) (a : Fin 16) :
    pair V φ.v18 φ.v17 (ix2 b a) = (0#32, BitVec.ofNat 32 (16 * b.val + a.val)) := by
  obtain ⟨-, -, -, -, -, -, -, -, h9, h10, h11, h12, h13, h14, h15, h16, h17, h18, h19, h20, h21, h22⟩ := h
  simp only [Step.law, Step.binary, Step.unary, Step.nullary] at h9 h10 h11 h12 h13 h14 h15 h16 h17 h18 h19 h20 h21 h22
  obtain ⟨e1, e2⟩ := counter_arith b.val a.val b.isLt a.isLt
  have e14 : val V φ.v14 (ix2 b a) = 16#64 * BitVec.ofNat 64 b.val + 1#64 * BitVec.ofNat 64 a.val := by
    rw [h17, h13, h16, h12, h11, h15, h14, h9, h10]
    rfl
  have e15 : val V φ.v15 (ix2 b a) = 32#64 := by rw [h19, h18]; rfl
  have e16 : val V φ.v16 (ix2 b a) = val V φ.v14 (ix2 b a) >>> 32#64 := by
    rw [h20]
    show IntOp.shrui .host (val V φ.v14 (ix2 b a)) (val V φ.v15 (ix2 b a)) = _
    rw [e15, IntOp.shrui, if_pos (by decide)]
  have e17 : val V φ.v17 (ix2 b a) = (val V φ.v14 (ix2 b a)).setWidth 32 := congrFun h21 _
  have e18 : val V φ.v18 (ix2 b a) = (val V φ.v16 (ix2 b a)).setWidth 32 := congrFun h22 _
  rw [pair, e18, e16, e17, e14, e1, e2]

end Cert.Proof

end
-- ==== Proof.ReferenceNoise.lean ====
/- The reference's float lines, element by element: the table row a state selects, the weights, the uniform numbers, the scores, and the index of the greatest score. -/
module

public import proofs.«01_k».proof.Proof.ReferenceHash
public import proofs.«01_k».proof.Proof.First
public import Idealize.ShloMosaic.Lib.Routing.Ops
public import Idealize.ShloMosaic.Lib.Pointwise.Reduce
public import Idealize.ShloMosaic.Lib.Pointwise.Tactic

@[expose] public section

noncomputable section

namespace Cert.Proof

open Idealize.ShloMosaic Idealize.SL.Sem Idealize.ShloMosaic.StableHlo Cert.ReferenceIdeal
open Cert.ReferenceIdeal.Facts₀ Cert.ReferenceIdeal.Facts

section

variable {F : FTy → Type} [FloatOps F] [Facts₀] [Facts] {V : Valuation τ sig (Elt F)}

/-- The test a state in range passes, and the one it fails. -/
theorem inRange (n : Fin 100) :
    IntOp.cmpi .slt (BitVec.ofNat 32 n.val) 0#32 = 0#1 ∧ IntOp.cmpi .sge (BitVec.ofNat 32 n.val) 0#32 = 1#1
      ∧ IntOp.cmpi .sle (BitVec.ofNat 32 n.val) 99#32 = 1#1 := by
  revert n; decide

/-- The law of the row taken: at a row whose state is `n`, within the table, the table's row `n`. -/
theorem take_law {arg0 : TRef sig ⟨S100x16, .f32⟩} {arg1 : TRef sig ⟨S16384, .i32⟩} {φ : fn_take.Bufs}
    (h : (takeSteps (F := F) arg0 arg1 φ).Forall fun s => s.law V) (b : Fin 16384) (a : Fin 16) (n : Fin 100)
    (hn : val V arg1 (ix1 b) = BitVec.ofNat 32 n.val) : val V φ.v16 (ix2 b a) = val V arg0 (ix2 n a) := by
  obtain ⟨h1, h2, h3, h4, h5, h6, h7, h8, h9, h10, h11, h12, h13, h14, h15, h16, h17, h18, h19, h20, h21, h22, h23⟩ := h
  simp only [Step.law, Step.ternary, Step.binary, Step.unary, Step.nullary] at h1 h2 h3 h4 h5 h6 h7 h8 h9 h10 h11 h12 h13 h14 h15 h16 h17 h18 h19 h20 h21 h22 h23
  obtain ⟨n1, n2, n3⟩ := inRange n
  have e1 : val V φ.v1 (ix1 b) = 0#1 := by
    rw [h3, h2, h1]
    show IntOp.cmpi .slt (val V arg1 (ix1 b)) 0#32 = _
    rw [hn, n1]
  have e4 : val V φ.call0.v0 (ix1 b) = BitVec.ofNat 32 n.val := by
    rw [h7]
    show Scalar.select (val V φ.v1 (ix1 b)) (val V φ.v3 (ix1 b)) (val V arg1 (ix1 b)) = _
    rw [e1, hn]
    rfl
  have e5 : val V φ.v5 (ix2 b 0) = BitVec.ofNat 32 n.val := by
    rw [h8, ← e4]
    refine congrArg (val V φ.call0.v0) (funext fun d => Fin.ext ?_)
    match d with
    | ⟨0, _⟩ => rfl
  have e11 : val V φ.v11 (ix2 b 0) = 1#1 := by
    rw [h16, h12, h15, h14, h13, h11, h10, h9]
    show IntOp.cmpi .sge (val V φ.v5 (ix2 b 0)) 0#32 &&& IntOp.cmpi .sle (val V φ.v5 (ix2 b 0)) 99#32 = _
    rw [e5, n2, n3]
    rfl
  have e12 : val V φ.v12 (ix1 b) = 1#1 := by
    rw [h18, Host.reduce_eq_fold, Shape.ReducesTo.fold_fiber_r2_a1, Finset.univ_unique, Finset.fold_singleton, h17]
    show IntOp.andi (val V φ.v11 (ix2 b 0)) 1#1 = 1#1
    rw [e11]
    rfl
  have e14 : val V φ.v14 (ix2 b a) = 1#1 := by
    rw [h20, ← e12]
    refine congrArg (val V φ.v12) (funext fun d => Fin.ext ?_)
    match d with
    | ⟨0, _⟩ => rfl
  have e16 : val V φ.v16 (ix2 b a) = Scalar.select (val V φ.v14 (ix2 b a)) (val V φ.v13 (ix2 b a)) (val V φ.v15 (ix2 b a)) :=
    congrFun h23 _
  rw [e16, e14, h19]
  show Host.gather _ (val V arg0) (val V φ.v5) (ix2 b a) = _
  exact Routing.gather_row _ rfl rfl rfl rfl rfl _ _ b a n e5 (by decide)

/-- The reference's uniform number between `lo` and `hi` from a hash word. -/
def uniformBetween (lo hi : F .f32) (w : Word) : F .f32 :=
  FloatOps.maximumf lo (FloatOps.addf (FloatOps.mulf (FloatOps.subf (FloatOps.ofBits .f32 (w >>> 9#32 ||| 1065353216#32))
    (FloatOps.ofBits .f32 0x3F800000#32)) (FloatOps.subf hi lo)) lo)

/-- The law of the uniform numbers. -/
theorem uniform_law {arg0 : TRef sig ⟨S2, .i32⟩} {lo hi : TRef sig ⟨S_, .f32⟩} {φ : fn_uniform.Bufs}
    (hc : (counterSteps (F := F) arg0 lo hi φ).Forall fun s => s.law V)
    (h : (floatSteps (F := F) lo hi φ).Forall fun s => s.law V) (j : S16384x16.Idx) :
    val V φ.v34 j = uniformBetween (val V lo default) (val V hi default)
      ((pair V φ.call0.v171 φ.call0.v175 j).1 ^^^ (pair V φ.call0.v171 φ.call0.v175 j).2) := by
  obtain ⟨c1, c2, c3, c4, -⟩ := hc
  obtain ⟨h1, h2, h3, h4, h5, h6, h7, h8, h9, h10, h11, h12, h13, h14, h15, h16, h17, h18⟩ := h
  simp only [Step.law, Step.binary, Step.unary, Step.nullary, id] at c1 c2 c3 c4 h1 h2 h3 h4 h5 h6 h7 h8 h9 h10 h11 h12 h13 h14 h15 h16 h17 h18
  have one (x : (⟨S_, .f32⟩ : BufTy).Contents (Elt F)) (i : S_.Idx) : x i = x default := congrArg x (Subsingleton.elim _ _)
  have e2 (i) : val V φ.v2 i = val V lo default := by rw [c3, c1]; exact one _ _
  have e3 (i) : val V φ.v3 i = val V hi default := by rw [c4, c2]; exact one _ _
  have e20 : val V φ.v20 j = val V φ.call0.v171 j ^^^ val V φ.call0.v175 j := congrFun h1 j
  have e22 : val V φ.v22 j = val V φ.v20 j >>> 9#32 :=
    (congrFun h4 j).trans (hostShr_at _ _ j (by rw [h3, h2]; rfl) (by decide))
  have e24 : val V φ.v24 j = val V φ.v22 j ||| 1065353216#32 := by rw [h7, h6, h5]; rfl
  have e25 : val V φ.v25 j = FloatOps.ofBits .f32 (val V φ.v24 j) := congrFun h8 j
  have e27 : val V φ.v27 j = FloatOps.subf (val V φ.v25 j) (FloatOps.ofBits .f32 0x3F800000#32) := by rw [h11, h10, h9]; rfl
  have e28 (i) : val V φ.v28 i = FloatOps.subf (val V φ.v3 i) (val V φ.v2 i) := congrFun h12 i
  have e29 : val V φ.v29 j = FloatOps.subf (val V hi default) (val V lo default) := by
    rw [h13]
    refine (e28 _).trans ?_
    rw [e2, e3]
  have e31 : val V φ.v31 j = val V lo default := by rw [h15]; exact e2 _
  have e33 : val V φ.v33 j = val V lo default := by rw [h17]; exact e2 _
  have e30 : val V φ.v30 j = FloatOps.mulf (val V φ.v27 j) (val V φ.v29 j) := congrFun h14 j
  have e32 : val V φ.v32 j = FloatOps.addf (val V φ.v30 j) (val V φ.v31 j) := congrFun h16 j
  have e34 : val V φ.v34 j = FloatOps.maximumf (val V φ.v33 j) (val V φ.v32 j) := congrFun h18 j
  rw [e34, e33, e32, e31, e30, e29, e27, e25, e24, e22, e20]
  rfl

/-- The reference's score from a uniform number and a weight: the Gumbel noise plus the weight's logarithm. -/
def gumbelScore (f w : F .f32) : F .f32 :=
  FloatOps.addf (FloatOps.hostNegf (FloatOps.hostUnary .log (FloatOps.hostNegf (FloatOps.hostUnary .log
    (FloatOps.maximumf (FloatOps.ofBits .f32 0x00800000#32) (FloatOps.addf (FloatOps.mulf f (FloatOps.ofBits .f32 0x3F800000#32))
      (FloatOps.ofBits .f32 0x00800000#32))))))) (FloatOps.hostUnary .log w)

/-- The law of the scores. -/
theorem gumbel_law {φ : MainBufs} (h : (gumbelSteps (F := F) φ).Forall fun s => s.law V) (j : S16384x16.Idx) :
    val V φ.v24 j = gumbelScore (val V φ.v12 j) (val V φ.v4 j) := by
  obtain ⟨h1, h2, h3, h4, h5, h6, h7, h8, h9, h10, h11, h12, h13, h14, h15⟩ := h
  simp only [Step.law, Step.binary, Step.unary, Step.nullary] at h1 h2 h3 h4 h5 h6 h7 h8 h9 h10 h11 h12 h13 h14 h15
  rw [h15, h14, h13, h12, h11, h10, h9, h8, h7, h6, h5, h4, h3, h2, h1]
  rfl

end

section

variable [Facts₀] [Facts] {V : Valuation τ sig (Elt Ideal)}

/-- The law of the weights, over the extended reals: each row divided by its sum. -/
theorem weight_law {φ : MainBufs} (h : (weightSteps (F := Ideal) φ).Forall fun s => s.law V) (b : Fin 16384) (a : Fin 16) :
    val V φ.v4 (ix2 b a) = Ideal.div (val V φ.v0 (ix2 b a)) (Ideal.ofBits .f32 0x00000000#32 + ∑ k : Fin 16, val V φ.v0 (ix2 b k)) := by
  obtain ⟨h1, h2, h3, h4, h5⟩ := h
  simp only [Step.law, Step.binary, Step.unary, Step.nullary] at h1 h2 h3 h4 h5
  have e1 : val V φ.v1 (ix1 b) = Ideal.ofBits .f32 0x00000000#32 + ∑ k : Fin 16, val V φ.v0 (ix2 b k) := by
    rw [h2, Host.reduceAdd_apply, h1]
    exact Ideal.hostReduceAdd_r2_a1 _ _ _ _
  have e3 : val V φ.v3 (ix2 b a) = val V φ.v1 (ix1 b) := by
    rw [h4, h3]
    refine congrArg (val V φ.v1) (funext fun d => Fin.ext ?_)
    match d with
    | ⟨0, _⟩ => rfl
  have e4 : val V φ.v4 (ix2 b a) = Ideal.div (val V φ.v0 (ix2 b a)) (val V φ.v3 (ix2 b a)) := congrFun h5 _
  rw [e4, e3, e1]

/-- The word of minus infinity. -/
theorem negInf_eq : Ideal.ofBits .f32 0xFF800000#32 = ⊥ := by
  simp [Ideal.ofBits, Ideal.ieee]

/-- The law of the result: the first index of the row's greatest score. -/
theorem argmax_law {arg0 : TRef sig ⟨S16384x16, .f32⟩} {φ : fn_argmax.Bufs}
    (h : (argmaxSteps (F := Ideal) arg0 φ).Forall fun s => s.law V) (b : Fin 16384) {k : Fin 16}
    (hk : IsFirst (fun a => val V arg0 (ix2 b a)) k) : val V φ.v1_1 (ix1 b) = BitVec.ofNat 32 k.val := by
  obtain ⟨h1, h2, h3, -, h5⟩ := h
  simp only [Step.law, Step.quaternary, Step.nullary, List.Forall] at h1 h2 h3 h5
  rw [h5]
  generalize val V arg0 = x at hk
  rw [h1, h2, h3, Ideal.argReduce_eq_reduce2]
  beta_reduce
  rw [Host.reduce2_eq_foldl_fiber]
  show (List.foldl _ (Ideal.ofBits .f32 0xFF800000#32, 0#32) _).2 = _
  rw [negInf_eq]
  refine foldl_reducer_eq hk _ fun q => ?_
  have hd := Shape.ReducesTo.fiber_r2_a1 (n0 := 16384) (n1 := 16) reducesTo_S16384x16_S16384_d1 (ix1 b)
  simp only [Host.argReduceFiber, List.mem_map, List.mem_filter, List.mem_finRange, true_and, decide_eq_true_eq]
  constructor
  · rintro ⟨i, hi, rfl⟩
    obtain ⟨a, ha⟩ := (hd _).mp hi
    exact ⟨a, by rw [← ha]; rfl⟩
  · rintro ⟨a, rfl⟩
    refine ⟨S16384x16.rowMajor (ix2 b a), ?_, ?_⟩
    · rw [Equiv.symm_apply_apply]
      exact (hd _).mpr ⟨a, rfl⟩
    · rw [Equiv.symm_apply_apply]
      rfl

end

end Cert.Proof

end
-- ==== Proof.Scores.lean ====
/- The two programs' scores over the extended reals: from the same hash word both draw the same uniform number, strictly between 0 and 1, and under the same table row their scores order the sixteen columns alike. -/
module

public import proofs.«01_k».proof.Proof.KernelValue
public import proofs.«01_k».proof.Proof.ReferenceNoise

@[expose] public section

noncomputable section

namespace Cert.Proof

open Idealize.ShloMosaic

/-! ## The uniform numbers -/

/-- The word of 1. -/
theorem one_eq : Ideal.ofBits .f32 0x3F800000#32 = ((1 : ℝ) : EReal) := by
  simp [Ideal.ofBits, Ideal.ieee, -EReal.coe_mul]; norm_num

/-- The word of 0. -/
theorem zero_eq : Ideal.ofBits .f32 0x00000000#32 = ((0 : ℝ) : EReal) := by
  simp [Ideal.ofBits, Ideal.ieee]

/-- The word of the least positive normal number. -/
theorem least_eq : Ideal.ofBits .f32 0x00800000#32 = (((2 : ℝ) ^ (-126 : ℤ) : ℝ) : EReal) := by
  simp [Ideal.ofBits, Ideal.ieee, -EReal.coe_mul]; norm_num

/-- A word's upper 23 bits under the exponent of 1: a number in [1, 2) with that fraction. -/
theorem mantissa_eq (w : Word) : ∃ t : ℕ, t < 2 ^ 23 ∧
    Ideal.ofBits .f32 (w >>> 9#32 ||| 1065353216#32) = ((1 + t / 2 ^ 23 : ℝ) : EReal) := by
  have hs : (w >>> 9#32 ||| 1065353216#32).extractLsb' 31 1 = 0#1 := by
    apply BitVec.eq_of_getLsbD_eq
    intro i hi
    interval_cases i <;> simp
  have he : (w >>> 9#32 ||| 1065353216#32).extractLsb' 23 8 = 127#8 := by
    apply BitVec.eq_of_getLsbD_eq
    intro i hi
    interval_cases i <;> simp
  refine ⟨_, ((w >>> 9#32 ||| 1065353216#32).extractLsb' 0 23).isLt, ?_⟩
  simp only [Ideal.ofBits, Ideal.ieee, Nat.reduceAdd, hs, he]
  generalize ((w >>> 9#32 ||| 1065353216#32).extractLsb' 0 23).toNat = t
  rw [if_neg (by decide), if_neg (by decide)]
  refine congrArg Real.toEReal ?_
  norm_num
  ring

/-- The greater of two reals, as an extended real. -/
theorem coe_max (x y : ℝ) : max (x : EReal) (y : EReal) = ((max x y : ℝ) : EReal) :=
  (EReal.coe_strictMono.monotone.map_max).symm

/-- The number both programs draw from a word: the kernel's, and what the reference's Gumbel noise is made of. -/
theorem uniform_eq (w : Word) : ∃ u : ℝ, 0 < u ∧ u < 1 ∧ uniformWord (F := Ideal) w = u ∧
    ∀ q : EReal, gumbelScore (F := Ideal) (uniformBetween (F := Ideal) (Ideal.ofBits .f32 0x00000000#32) (Ideal.ofBits .f32 0x3F800000#32) w) q
      = -(Ideal.log (-(Ideal.log u))) + Ideal.log q := by
  obtain ⟨t, ht, e⟩ := mantissa_eq w
  have ht' : (t : ℝ) + 1 ≤ 2 ^ 23 := by exact_mod_cast ht
  have h0 : (0 : ℝ) ≤ t / 2 ^ 23 := by positivity
  have hl : (0 : ℝ) < (2 : ℝ) ^ (-126 : ℤ) := by positivity
  refine ⟨t / 2 ^ 23 + (2 : ℝ) ^ (-126 : ℤ), by positivity, ?_, ?_, fun q => ?_⟩
  · have : (t : ℝ) / 2 ^ 23 ≤ (2 ^ 23 - 1) / 2 ^ 23 := by gcongr; linarith
    have : (2 : ℝ) ^ (-126 : ℤ) < 1 / 2 ^ 23 := by norm_num
    have : ((2 : ℝ) ^ 23 - 1) / 2 ^ 23 + 1 / 2 ^ 23 = 1 := by norm_num
    linarith
  · simp only [uniformWord, Ideal.ofBits_def, Ideal.addf_def, Ideal.subf_def]
    rw [e, one_eq, least_eq, ← EReal.coe_sub, ← EReal.coe_add]
    norm_num
  · simp only [gumbelScore, uniformBetween, Ideal.ofBits_def, Ideal.addf_def, Ideal.subf_def, Ideal.mulf_def, Ideal.maximumf_def]
    rw [e, one_eq, least_eq, zero_eq, ← EReal.coe_sub, ← EReal.coe_sub, ← EReal.coe_mul, ← EReal.coe_add,
      coe_max, ← EReal.coe_mul, ← EReal.coe_add, coe_max]
    have : max ((2 : ℝ) ^ (-126 : ℤ)) (max 0 ((1 + (t : ℝ) / 2 ^ 23 - 1) * (1 - 0) + 0) * 1 + (2 : ℝ) ^ (-126 : ℤ))
        = (t : ℝ) / 2 ^ 23 + (2 : ℝ) ^ (-126 : ℤ) := by
      have e1 : (1 + (t : ℝ) / 2 ^ 23 - 1) * (1 - 0) + 0 = t / 2 ^ 23 := by ring
      rw [e1, max_eq_right h0, mul_one]
      exact max_eq_right (by linarith)
    rw [this]
    rfl

/-! ## The scores -/

/-- The logarithm of a positive real. -/
theorem log_of_pos {x : ℝ} (hx : 0 < x) : Ideal.log (x : EReal) = (Real.log x : EReal) := by
  show (if x ≤ 0 then (⊥ : EReal) else (Real.log x : EReal)) = _
  rw [if_neg (not_le.mpr hx)]

/-- The logarithm of zero is the least extended real. -/
theorem log_zero : Ideal.log (0 : EReal) = ⊥ := by
  show (if (0 : ℝ) ≤ 0 then (⊥ : EReal) else (Real.log 0 : EReal)) = _
  rw [if_pos le_rfl]

/-- The quotient of reals by a nonzero one. -/
theorem div_of_ne {x y : ℝ} (hy : y ≠ 0) : Ideal.div (x : EReal) (y : EReal) = ((x / y : ℝ) : EReal) := by
  rw [Ideal.div, if_neg (by exact_mod_cast hy), ← EReal.coe_inv, ← EReal.coe_mul, div_eq_mul_inv]

/-- The reference's score of column `a`, over the extended reals. -/
def referenceScore (p : Fin 16 → EReal) (u : Fin 16 → EReal) (a : Fin 16) : EReal :=
  -(Ideal.log (-(Ideal.log (u a)))) + Ideal.log (Ideal.div (p a) (∑ k, p k))

/-- The two scores of a column of positive weight: `-x` and `-log x` of one positive number `x`. -/
theorem scores_of_pos {u q s : ℝ} (hu : 0 < u) (hu' : u < 1) (hq : 0 < q) (hs : 0 < s) :
    ∃ x : ℝ, 0 < x ∧ Ideal.log (u : EReal) * Ideal.div (s : EReal) (q : EReal) = ((-x : ℝ) : EReal)
      ∧ -(Ideal.log (-(Ideal.log (u : EReal)))) + Ideal.log (Ideal.div (q : EReal) (s : EReal)) = ((-Real.log x : ℝ) : EReal) := by
  have hL : 0 < -Real.log u := neg_pos.mpr (Real.log_neg hu hu')
  refine ⟨-Real.log u * (s / q), by positivity, ?_, ?_⟩
  · rw [log_of_pos hu, div_of_ne hq.ne', ← EReal.coe_mul, neg_mul, neg_neg]
  · rw [log_of_pos hu, ← EReal.coe_neg, log_of_pos hL, div_of_ne hs.ne', log_of_pos (by positivity), ← EReal.coe_neg,
      ← EReal.coe_add, Real.log_mul hL.ne' (by positivity), Real.log_div hs.ne' hq.ne', Real.log_div hq.ne' hs.ne']
    congr 1
    ring

/-- The two scores of a column of weight zero: both the least. -/
theorem scores_of_zero {u s : ℝ} (hu : 0 < u) (hu' : u < 1) (hs : 0 < s) :
    Ideal.log (u : EReal) * Ideal.div (s : EReal) 0 = ⊥
      ∧ -(Ideal.log (-(Ideal.log (u : EReal)))) + Ideal.log (Ideal.div 0 (s : EReal)) = ⊥ := by
  have hL : Real.log u < 0 := Real.log_neg hu hu'
  constructor
  · rw [log_of_pos hu, Ideal.div, if_pos rfl, if_pos (by exact_mod_cast hs), EReal.coe_mul_top_of_neg hL]
  · rw [Ideal.div, if_neg (by exact_mod_cast hs.ne'), zero_mul, log_zero, EReal.add_bot]

/-- The two scores when every weight is zero: the kernel's all the greatest, the reference's all the least. -/
theorem scores_of_none {u : ℝ} (hu : 0 < u) (hu' : u < 1) :
    Ideal.log (u : EReal) * Ideal.div 0 0 = ⊤
      ∧ -(Ideal.log (-(Ideal.log (u : EReal)))) + Ideal.log (Ideal.div 0 0) = ⊥ := by
  have hL : Real.log u < 0 := Real.log_neg hu hu'
  have hd : Ideal.div 0 0 = ⊥ := by simp [Ideal.div]
  rw [hd]
  constructor
  · rw [log_of_pos hu, EReal.coe_mul_bot_of_neg hL]
  · exact EReal.add_bot _

/-- Under any row of finite weights, none negative, the two scores order the columns alike. -/
theorem scores_order {p : Fin 16 → EReal} (hp : ∀ a, 0 ≤ p a ∧ p a < ⊤) {u : Fin 16 → ℝ} (hu : ∀ a, 0 < u a ∧ u a < 1) (a b : Fin 16) :
    kernelScore p (fun a => u a) a ≤ kernelScore p (fun a => u a) b
      ↔ referenceScore p (fun a => u a) a ≤ referenceScore p (fun a => u a) b := by
  have hq : ∀ a, ∃ q : ℝ, 0 ≤ q ∧ p a = q := fun a => by
    obtain ⟨h0, h1⟩ := hp a
    refine ⟨(p a).toReal, EReal.toReal_nonneg h0, (EReal.coe_toReal h1.ne ?_).symm⟩
    exact (lt_of_lt_of_le EReal.bot_lt_zero h0).ne'
  choose q hq0 hpq using hq
  obtain rfl : p = fun a => (q a : EReal) := funext hpq
  have hsum : ∑ k, (q k : EReal) = ((∑ k, q k : ℝ) : EReal) := (map_sum (⟨⟨Real.toEReal, rfl⟩, EReal.coe_add⟩ : ℝ →+ EReal) q _).symm
  simp only [kernelScore, referenceScore, hsum]
  have hs0 : 0 ≤ ∑ k, q k := Finset.sum_nonneg fun k _ => hq0 k
  rcases hs0.eq_or_lt with hs | hs
  · have hz : ∀ k, q k = 0 := fun k => (Finset.sum_eq_zero_iff_of_nonneg fun k _ => hq0 k).mp hs.symm k (Finset.mem_univ k)
    rw [← hs, hz a, hz b, EReal.coe_zero, (scores_of_none (hu a).1 (hu a).2).1, (scores_of_none (hu b).1 (hu b).2).1,
      (scores_of_none (hu a).1 (hu a).2).2, (scores_of_none (hu b).1 (hu b).2).2]
    simp
  · rcases (hq0 a).eq_or_lt with ha | ha
    · rw [← ha, EReal.coe_zero, (scores_of_zero (hu a).1 (hu a).2 hs).1, (scores_of_zero (hu a).1 (hu a).2 hs).2]
      simp
    · obtain ⟨x, hx, e1, e2⟩ := scores_of_pos (hu a).1 (hu a).2 ha hs
      rw [e1, e2]
      rcases (hq0 b).eq_or_lt with hb | hb
      · rw [← hb, EReal.coe_zero, (scores_of_zero (hu b).1 (hu b).2 hs).1, (scores_of_zero (hu b).1 (hu b).2 hs).2]
        simp
      · obtain ⟨y, hy, e3, e4⟩ := scores_of_pos (hu b).1 (hu b).2 hb hs
        rw [e3, e4, EReal.coe_le_coe_iff, EReal.coe_le_coe_iff, neg_le_neg_iff, neg_le_neg_iff, Real.log_le_log_iff hy hx]

end Cert.Proof

end
-- ==== Proof.ReferenceValue.lean ====
/- What the reference returns: at every row, the first index of the greatest of the KERNEL's scores, when the state is a row of the table and the row holds finite weights, none negative. -/
module

public import proofs.«01_k».proof.Proof.ReferenceCounters
public import proofs.«01_k».proof.Proof.Scores

@[expose] public section

noncomputable section

namespace Cert.Proof

open Idealize.ShloMosaic Idealize.SL.Sem Idealize.ShloMosaic.StableHlo Cert.ReferenceIdeal

variable [Facts₀] [Facts] {V : Valuation τ sig (Elt Ideal)}

/-- The reference's answer at row `b`, whose state is `n` and whose table row is `p`. -/
theorem reference_at (h : (steps (F := Ideal)).Forall fun s => s.law V) (b : Fin 16384) (n : Fin 100) {p : Fin 16 → EReal}
    (hn : val V mainBufs.arg0 (ix1 b) = BitVec.ofNat 32 n.val) (hp : ∀ a, val V mainBufs.arg1 (ix2 n a) = p a)
    (hpos : ∀ a, 0 ≤ p a ∧ p a < ⊤) {k : Fin 16} (hk : IsFirst (kernelScores p b.val) k) :
    val V main_call2.v1_1 (ix1 b) = BitVec.ofNat 32 k.val := by
  simp only [steps, List.forall_append] at h
  obtain ⟨hTake, hWeight, hKey, hCounter, hHash, hFloat, hGumbel, hArgmax⟩ := h
  refine argmax_law hArgmax b ?_
  choose u hu0 hu1 hker href using fun a : Fin 16 => uniform_eq (hashWord (BitVec.ofNat 32 (16 * b.val + a.val)))
  have hrow (a : Fin 16) : val V mainBufs.v0 (ix2 b a) = p a := (take_law hTake b a n hn).trans (hp a)
  have hlo : val V mainBufs.cst_2 default = Ideal.ofBits .f32 0x00000000#32 := by
    obtain ⟨-, -, -, -, -, -, -, -, -, -, h, -⟩ := hKey
    exact congrFun h _
  have hhi : val V mainBufs.cst_3 default = Ideal.ofBits .f32 0x3F800000#32 := by
    obtain ⟨-, -, -, -, -, -, -, -, -, -, -, h⟩ := hKey
    exact congrFun h _
  have hkey : word V main_call1.v5 = 0#32 ∧ word V main_call1.v7 = 42#32 :=
    ⟨(keyWords_law hCounter).1.trans (key_law hKey).1, (keyWords_law hCounter).2.trans (key_law hKey).2⟩
  have hscore (a : Fin 16) : val V mainBufs.v24 (ix2 b a) = referenceScore p (fun a => u a) a := by
    have hf := uniform_law hCounter hFloat (ix2 b a)
    rw [hash_law hHash, counter_law hCounter, hkey.1, hkey.2, ← hashWord_eq, hlo, hhi] at hf
    have hw := weight_law hWeight b a
    simp only [hrow] at hw
    rw [zero_eq, EReal.coe_zero, zero_add] at hw
    have hg := gumbel_law hGumbel (ix2 b a)
    rw [hw, show val V mainBufs.v12 (ix2 b a) = _ from hf, href a] at hg
    exact hg
  rw [show (fun a => val V mainBufs.v24 (ix2 b a)) = referenceScore p fun a => u a from funext hscore]
  refine IsFirst.congr (scores_order hpos fun a => ⟨hu0 a, hu1 a⟩) ?_
  rw [show (fun a : Fin 16 => (u a : EReal)) = fun a => uniformWord (F := Ideal) (hashWord (BitVec.ofNat 32 (16 * b.val + a.val)))
    from funext fun a => (hker a).symm]
  exact hk

end Cert.Proof

end
-- ==== Proof.Precondition.lean ====
/- What the precondition says of the arguments, element by element. -/
module

public import proofs.«01_k».proof.Pre_one_policy_row
public import proofs.«01_k».proof.Proof.Scores

@[expose] public section

noncomputable section

namespace Cert.Proof

open Idealize.ShloMosaic Cert.Pre_one_policy_row

/-- The shape relations the precondition's operations take. -/
theorem preFacts : Cert.Pre_one_policy_row.Facts where
  bcast_S_S16384 := by decide
  slices_S100x16_S1x16_0_0 := by decide
  bcast_S1x16_S100x16_0_1 := by decide
  bcast_S_S100x16 := by decide

/-- The word of infinity. -/
theorem inf_eq : Ideal.ofBits .f32 0x7F800000#32 = ⊤ := by
  simp [Ideal.ofBits, Ideal.ieee]

/-- A bit made of a proposition is one just when the proposition holds. -/
theorem ofBool_eq_one {c : Bool} : BitVec.ofBool c = 1#1 ↔ c = true := by cases c <;> decide

/-- Two bits are both one when their conjunction is. -/
theorem and_eq_one {x y : BitVec 1} : x &&& y = 1#1 ↔ x = 1#1 ∧ y = 1#1 := by revert x y; decide

/-- A word that tests as at least 0 and below 100 is the number of a table row. -/
theorem row_of_range {x : BitVec 32} (h : IntOp.cmpi .sge x 0#32 &&& IntOp.cmpi .slt x 100#32 = 1#1) :
    ∃ n : Fin 100, x = BitVec.ofNat 32 n.val := by
  obtain ⟨h0, h1⟩ := and_eq_one.mp h
  have g0 : (0 : ℤ) ≤ x.toInt := by simpa [IntOp.cmpi, ofBool_eq_one, BitVec.sle_iff_toInt_le] using h0
  have g1 : x.toInt < 100 := by simpa [IntOp.cmpi, ofBool_eq_one, BitVec.slt_iff_toInt_lt] using h1
  have hx : x.toInt = x.toNat := by
    rw [BitVec.toInt_eq_toNat_cond] at g0 ⊢
    have := x.isLt
    split at g0 <;> split <;> omega
  have hn : x.toNat < 100 := by omega
  exact ⟨⟨x.toNat, hn⟩, by simp⟩

variable [Cert.Pre_one_policy_row.Facts] {state : IVec S16384 32} {table : FVec Ideal S100x16 .f32}

/-- Every state is the number of a table row. -/
theorem state_row (h : (fn (F := Ideal) state table).1 = fun _ => 1#1) (b : Fin 16384) :
    ∃ n : Fin 100, state (ix1 b) = BitVec.ofNat 32 n.val :=
  row_of_range (congrFun h (ix1 b))

/-- Every table row is the first. -/
theorem table_row (h : (fn (F := Ideal) state table).2.1 = fun _ => 1#1) (n : Fin 100) (a : Fin 16) :
    table (ix2 n a) = table (ix2 0 a) := by
  have e : Ideal.cmp .oeq (table (ix2 n a)) (table (ix2 0 a)) = 1#1 := by
    have := congrFun h (ix2 n a)
    refine Eq.trans (congrArg (Ideal.cmp .oeq (table (ix2 n a))) (congrArg table (funext fun d => Fin.ext ?_))) this
    match d with
    | ⟨0, _⟩ => rfl
    | ⟨1, _⟩ => show a.val = 0 + a.val; omega
  simpa [Ideal.cmp, ofBool_eq_one] using e

/-- Every entry is finite and not negative. -/
theorem table_finite (h : (fn (F := Ideal) state table).2.2 = fun _ => 1#1) (n : Fin 100) (a : Fin 16) :
    0 ≤ table (ix2 n a) ∧ table (ix2 n a) < ⊤ := by
  have e : Ideal.cmp .oge (table (ix2 n a)) (Ideal.ofBits .f32 0x00000000#32) &&& Ideal.cmp .olt (table (ix2 n a)) (Ideal.ofBits .f32 0x7F800000#32) = 1#1 :=
    congrFun h (ix2 n a)
  rw [zero_eq, inf_eq, and_eq_one] at e
  simp only [Ideal.cmp, ofBool_eq_one, decide_eq_true_eq, EReal.coe_zero] at e
  exact ⟨of_decide_eq_true e.1, e.2⟩

end Cert.Proof

end
-- ==== Proof.lean ====
/- The certificate: both kernel programs and the reference run to the end with their arguments unchanged and every counter at zero, and, over the extended reals, the kernel and the reference return the same sixteen thousand indices wherever the precondition holds. The kernel's run is read in Proof/KernelRun.lean, the reference's in Proof/ReferenceRun.lean and Proof/ReferenceValue.lean, the comparison of the two scores in Proof/Scores.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.KernelRun
public import proofs.«01_k».proof.Proof.ReferenceRun
public import proofs.«01_k».proof.Proof.ReferenceValue
public import proofs.«01_k».proof.Proof.Precondition
public import Idealize.ShloMosaic.Adequacy
public import Idealize.ShloMosaic.Init

@[expose] public section

noncomputable section

namespace Cert.Proof

open Idealize.ShloMosaic Idealize.SL.Sem Idealize.ShloMosaic.StableHlo

/-- The two results agree at every row: where the kernel's launch ends with the first index of its greatest score, so
    does the reference's run. -/
theorem results_agree [Cert.KernelIdeal.Facts] [Cert.ReferenceIdeal.Facts] [Cert.Pre_one_policy_row.Facts]
    (m : (ℓ : Loc Cert.KernelIdeal.nD Cert.KernelIdeal.τ Cert.KernelIdeal.sig) → Buf (Elt Ideal) ℓ)
    (hPre : Cert.Pre_KernelIdeal_one_policy_row m) (c : Dev Cert.KernelIdeal.nD)
    {V : Valuation Cert.ReferenceIdeal.τ Cert.ReferenceIdeal.sig (Elt Ideal)}
    (hV : (steps (F := Ideal)).Forall fun s => s.law V)
    (h0 : V (Proc.devRef .tc Cert.ReferenceIdeal.main_arg0) = m ((c.tc : Thread Cert.KernelIdeal.nD Cert.KernelIdeal.τ).loc Cert.KernelIdeal.main_arg0))
    (h1 : V (Proc.devRef .tc Cert.ReferenceIdeal.main_arg1) = m ((c.tc : Thread Cert.KernelIdeal.nD Cert.KernelIdeal.τ).loc Cert.KernelIdeal.main_arg1)) :
    V (Proc.devRef .tc Cert.ReferenceIdeal.main_v25) = (Cert.KernelIdeal.Gen.dats m 0 c).arrAt 1 Cert.KernelIdeal.cfg0.N := by
  obtain ⟨hState, hRow, hFinite⟩ := hPre c
  refine funext fun (j : Cert.ReferenceIdeal.S16384.Idx) => ?_
  obtain ⟨k, hk⟩ := exists_isFirst (kernelScores (fun a => m ((c.tc : Thread Cert.KernelIdeal.nD Cert.KernelIdeal.τ).loc Cert.KernelIdeal.main_arg1) (ix2 0 a)) (j 0).val)
  obtain ⟨n, hn⟩ := state_row hState (j 0)
  have hj : ix1 (j 0) = j := funext fun d => by match d with | ⟨0, _⟩ => rfl
  refine Eq.trans ?_ (final_at m c j k hk).symm
  rw [← hj]
  exact reference_at hV (j 0) n ((congrFun h0 _).trans hn)
    (fun a => (congrFun h1 _).trans (table_row hRow n a)) (fun a => table_finite hFinite 0 a) hk

/-- Everything claimed: the five runs, the idealization, and the equality of the results. -/
theorem claim : Cert.Claim := ⟨Cert.Kernel.Gen.facts, Cert.KernelIdeal.Gen.facts, Cert.ReferenceIdeal.Gen.facts, preFacts, by
  have := preFacts
  refine ⟨fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    trivial, fun m ρ m' ρ' hPre hArgs => ?_⟩
  refine ⟨_, Cert.KernelIdeal.Value.run_blocks m ρ, ?_⟩
  refine (θ_run _ _ _).mono (fun r h c => ?_) (reference_run m' ρ')
  obtain ⟨V, hV, hr, h0, h1⟩ := h c
  exact ⟨(hr _).trans (results_agree m hPre c hV (h0.trans (hArgs c).1) (h1.trans (hArgs c).2)),
    (hr _).trans h0, (hr _).trans h1⟩⟩

end Cert.Proof

end
